-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1024x768 : Shape := ⟨3, ![8, 1024, 768]⟩
abbrev S8 : Shape := ⟨1, ![8]⟩
abbrev S1024x768 : Shape := ⟨2, ![1024, 768]⟩
abbrev S1024 : Shape := ⟨1, ![1024]⟩
abbrev S1025x1024 : Shape := ⟨2, ![1025, 1024]⟩
abbrev S1x1x1024 : Shape := ⟨3, ![1, 1, 1024]⟩
abbrev S1024x256 : Shape := ⟨2, ![1024, 256]⟩
abbrev S1024x1024 : Shape := ⟨2, ![1024, 1024]⟩
abbrev S1x1024 : Shape := ⟨2, ![1, 1024]⟩
abbrev S8x1 : Shape := ⟨2, ![8, 1]⟩
abbrev S1026x8x1024 : Shape := ⟨3, ![1026, 8, 1024]⟩
abbrev S8x128x768 : Shape := ⟨3, ![8, 128, 768]⟩
abbrev S128x1024 : Shape := ⟨2, ![128, 1024]⟩
abbrev S128x8x1024 : Shape := ⟨3, ![128, 8, 1024]⟩
abbrev S8x1024 : Shape := ⟨2, ![8, 1024]⟩
abbrev S2x8x768 : Shape := ⟨3, ![2, 8, 768]⟩
abbrev S2x1024 : Shape := ⟨2, ![2, 1024]⟩
abbrev S128x8x768 : Shape := ⟨3, ![128, 8, 768]⟩
abbrev S126x8x768 : Shape := ⟨3, ![126, 8, 768]⟩
abbrev S126x1024 : Shape := ⟨2, ![126, 1024]⟩
abbrev S128x1x1024 : Shape := ⟨3, ![128, 1, 1024]⟩
abbrev S1x128 : Shape := ⟨2, ![1, 128]⟩
abbrev S8x128 : Shape := ⟨2, ![8, 128]⟩
abbrev S8x256 : Shape := ⟨2, ![8, 256]⟩
abbrev S1x8x1024 : Shape := ⟨3, ![1, 8, 1024]⟩
abbrev S8x1026x1024 : Shape := ⟨3, ![8, 1026, 1024]⟩

abbrev nBuf : Space → Nat
  | .hbm => 17
  | .vmem => 17
  | .smem => 0
  | _ => 0

abbrev bufTy : (tb : Table) → Fin (tcTables nBuf tb) → BufTy
  | .hbm, ⟨0, _⟩ => ⟨S8x1024x768, .f32⟩
  | .hbm, ⟨1, _⟩ => ⟨S8, .f32⟩
  | .hbm, ⟨2, _⟩ => ⟨S1024x768, .f32⟩
  | .hbm, ⟨3, _⟩ => ⟨S1024, .f32⟩
  | .hbm, ⟨4, _⟩ => ⟨S1025x1024, .f32⟩
  | .hbm, ⟨5, _⟩ => ⟨S1x1x1024, .f32⟩
  | .hbm, ⟨6, _⟩ => ⟨S1024x256, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1x1024, .f32⟩
  | .hbm, ⟨11, _⟩ => ⟨S8x1, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1026x8x1024, .f32⟩
  | .hbm, ⟨16, _⟩ => ⟨S8x1026x1024, .f32⟩
  | .local _ .vmem, ⟨0, _⟩ => ⟨S8x1, .f32⟩
  | .local _ .vmem, ⟨1, _⟩ => ⟨S8x128x768, .f32⟩
  | .local _ .vmem, ⟨2, _⟩ => ⟨S8x128x768, .f32⟩
  | .local _ .vmem, ⟨3, _⟩ => ⟨S1024x768, .f32⟩
  | .local _ .vmem, ⟨4, _⟩ => ⟨S128x1024, .f32⟩
  | .local _ .vmem, ⟨5, _⟩ => ⟨S128x1024, .f32⟩
  | .local _ .vmem, ⟨6, _⟩ => ⟨S1x1024, .f32⟩
  | .local _ .vmem, ⟨7, _⟩ => ⟨S1x1024, .f32⟩
  | .local _ .vmem, ⟨8, _⟩ => ⟨S1024x256, .f32⟩
  | .local _ .vmem, ⟨9, _⟩ => ⟨S1x1024, .f32⟩
  | .local _ .vmem, ⟨10, _⟩ => ⟨S1024x1024, .f32⟩
  | .local _ .vmem, ⟨11, _⟩ => ⟨S1x1024, .f32⟩
  | .local _ .vmem, ⟨12, _⟩ => ⟨S128x8x1024, .f32⟩
  | .local _ .vmem, ⟨13, _⟩ => ⟨S128x8x1024, .f32⟩
  | .local _ .vmem, ⟨14, _⟩ => ⟨S8x1024, .f32⟩
  | .local _ .vmem, ⟨15, _⟩ => ⟨S2x8x768, .bf16⟩
  | .local _ .vmem, ⟨16, _⟩ => ⟨S2x1024, .f32⟩
  | _, _ => ⟨S8x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x128x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x8x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S8x1024x768 : Shape := ⟨3, ![8, 1024, 768]⟩
abbrev S8 : Shape := ⟨1, ![8]⟩
abbrev S1024x768 : Shape := ⟨2, ![1024, 768]⟩
abbrev S1024 : Shape := ⟨1, ![1024]⟩
abbrev S1025x1024 : Shape := ⟨2, ![1025, 1024]⟩
abbrev S1x1x1024 : Shape := ⟨3, ![1, 1, 1024]⟩
abbrev S1024x256 : Shape := ⟨2, ![1024, 256]⟩
abbrev S1024x1024 : Shape := ⟨2, ![1024, 1024]⟩
abbrev S8x1024x1024 : Shape := ⟨3, ![8, 1024, 1024]⟩
abbrev S1x1024x1024 : Shape := ⟨3, ![1, 1024, 1024]⟩
abbrev S128 : Shape := ⟨1, ![128]⟩
abbrev S_ : Shape := ⟨0, ![]⟩
abbrev S8x1 : Shape := ⟨2, ![8, 1]⟩
abbrev S1x128 : Shape := ⟨2, ![1, 128]⟩
abbrev S8x128 : Shape := ⟨2, ![8, 128]⟩
abbrev S8x256 : Shape := ⟨2, ![8, 256]⟩
abbrev S256x1024 : Shape := ⟨2, ![256, 1024]⟩
abbrev S8x1024 : Shape := ⟨2, ![8, 1024]⟩
abbrev S1x1024 : Shape := ⟨2, ![1, 1024]⟩
abbrev S8x1x1024 : Shape := ⟨3, ![8, 1, 1024]⟩
abbrev S8x1026x1024 : Shape := ⟨3, ![8, 1026, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8x1024x768, .f32⟩
  | .hbm, ⟨1, _⟩ => ⟨S8, .f32⟩
  | .hbm, ⟨2, _⟩ => ⟨S1024x768, .f32⟩
  | .hbm, ⟨3, _⟩ => ⟨S1024, .f32⟩
  | .hbm, ⟨4, _⟩ => ⟨S1025x1024, .f32⟩
  | .hbm, ⟨5, _⟩ => ⟨S1x1x1024, .f32⟩
  | .hbm, ⟨6, _⟩ => ⟨S1024x256, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S8x1024x1024, .f32⟩
  | .hbm, ⟨11, _⟩ => ⟨S1x1x1024, .f32⟩
  | .hbm, ⟨12, _⟩ => ⟨S8x1024x1024, .f32⟩
  | .hbm, ⟨13, _⟩ => ⟨S8x1024x1024, .f32⟩
  | .hbm, ⟨14, _⟩ => ⟨S1024x1024, .f32⟩
  | .hbm, ⟨15, _⟩ => ⟨S1x1024x1024, .f32⟩
  | .hbm, ⟨16, _⟩ => ⟨S8x1024x1024, .f32⟩
  | .hbm, ⟨17, _⟩ => ⟨S8x1024x1024, .f32⟩
  | .hbm, ⟨18, _⟩ => ⟨S128, .f32⟩
  | .hbm, ⟨19, _⟩ => ⟨S_, .f32⟩
  | .hbm, ⟨20, _⟩ => ⟨S128, .f32⟩
  | .hbm, ⟨21, _⟩ => ⟨S128, .f32⟩
  | .hbm, ⟨22, _⟩ => ⟨S_, .f32⟩
  | .hbm, ⟨23, _⟩ => ⟨S128, .f32⟩
  | .hbm, ⟨24, _⟩ => ⟨S128, .f32⟩
  | .hbm, ⟨25, _⟩ => ⟨S128, .f32⟩
  | .hbm, ⟨26, _⟩ => ⟨S8x1, .f32⟩
  | .hbm, ⟨27, _⟩ => ⟨S1x128, .f32⟩
  | .hbm, ⟨28, _⟩ => ⟨S8x128, .f32⟩
  | .hbm, ⟨29, _⟩ => ⟨S8x128, .f32⟩
  | .hbm, ⟨30, _⟩ => ⟨S8x128, .f32⟩
  | .hbm, ⟨31, _⟩ => ⟨S8x128, .f32⟩
  | .hbm, ⟨32, _⟩ => ⟨S8x128, .f32⟩
  | .hbm, ⟨33, _⟩ => ⟨S8x256, .f32⟩
  | .hbm, ⟨34, _⟩ => ⟨S256x1024, .f32⟩
  | .hbm, ⟨35, _⟩ => ⟨S8x1024, .f32⟩
  | .hbm, ⟨36, _⟩ => ⟨S1x1024, .f32⟩
  | .hbm, ⟨37, _⟩ => ⟨S8x1024, .f32⟩
  | .hbm, ⟨38, _⟩ => ⟨S8x1024, .f32⟩
  | .hbm, ⟨39, _⟩ => ⟨S8x1024, .f32⟩
  | .hbm, ⟨40, _⟩ => ⟨S8x1024, .f32⟩
  | .hbm, ⟨41, _⟩ => ⟨S_, .f32⟩
  | .hbm, ⟨42, _⟩ => ⟨S8x1024, .f32⟩
  | .hbm, ⟨43, _⟩ => ⟨S8x1024, .f32⟩
  | .hbm, ⟨44, _⟩ => ⟨S_, .f32⟩
  | .hbm, ⟨45, _⟩ => ⟨S8x1024, .f32⟩
  | .hbm, ⟨46, _⟩ => ⟨S8x1024, .f32⟩
  | .hbm, ⟨47, _⟩ => ⟨S8x1024, .f32⟩
  | .hbm, ⟨48, _⟩ => ⟨S1024x1024, .f32⟩
  | .hbm, ⟨49, _⟩ => ⟨S8x1024, .f32⟩
  | .hbm, ⟨50, _⟩ => ⟨S1x1024, .f32⟩
  | .hbm, ⟨51, _⟩ => ⟨S8x1024, .f32⟩
  | .hbm, ⟨52, _⟩ => ⟨S8x1024, .f32⟩
  | .hbm, ⟨53, _⟩ => ⟨S8x1x1024, .f32⟩
  | .hbm, ⟨54, _⟩ => ⟨S8x1x1024, .f32⟩
  | .hbm, ⟨55, _⟩ => ⟨S8x1026x1024, .f32⟩
  | _, _ => ⟨S8x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_1 : Ref sig .tc := ⟨.hbm, 41, rfl⟩
abbrev main_v29 : Ref sig .tc := ⟨.hbm, 42, rfl⟩
abbrev main_v30 : Ref sig .tc := ⟨.hbm, 43, rfl⟩
abbrev main_cst_2 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Proof.Body.lean ====
/- The kernel's body at one grid point, as a Hoare triple with its results named.

   A grid point reads one block of pixels (window 1), one block of position rows (window 3) and the two carried rows
   kept in the scratch buffers; it leaves the block of the output and the next two carried rows.  At the first point the
   carried rows are whatever the scratch buffers held, and rows 0 and 1 of the output are overwritten by the class
   token and the time token.  The two theorems below state both cases. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Value
public import Idealize.ShloMosaic.Lib.Pointwise.Reshape

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The condition of the body's one branch: the grid coordinate is zero. -/
abbrev isFirst (i : grid0.Coords) : Prop :=
  (Scalar.cmpi .ne (Scalar.extui (Scalar.cmpi .eq (BitVec.ofNat 32 (i 0).val) 0#32)) 0#32) = 1#1

/-- The branch is taken at the first grid point and at no other. -/
theorem isFirst_iff (t : Fin cfg0.N) : isFirst (grid0.coords t) ↔ t.val = 0 := by
  have ht : t.val < 9 := Nat.lt_of_lt_of_eq t.isLt N_0
  have e : (grid0.coords t 0).val = t.val / 1 % 9 := Pipeline.Grid.coords_val t 0 (by decide) rfl
  have e' : (grid0.coords t 0).val = t.val := by rw [e]; omega
  have key : isFirst (grid0.coords t) ↔ t.val % 9 = 0 := by
    simp only [isFirst, e]
    word_cmp
  rw [key]; omega

section
variable {Val : EltTy → Type} {S : Shape} {e : EltTy}

/-- A load from a whole buffer that holds `X` reads the rectangle's part of `X`. -/
theorem load_whole {κ : Kind} {sp : Space} {a : Memref sig κ sp S e} (h : a.IsWhole) (X : S.Idx → Val e) (r : Rect S) :
    View.readAt Val a.view r.toLoadRect (h.unread X) = View.ld X r := by
  rw [View.readAt_eq_ld, h.read_unread]

/-- A load of all of it reads `X` itself. -/
theorem load_all {κ : Kind} {sp : Space} {a : Memref sig κ sp S e} (h : a.IsWhole) {off : Fin S.rank → ℕ} (h0 : off = fun _ => 0)
    (X : S.Idx → Val e) (inb : ∀ b, off b + S.size b ≤ S.size b) :
    View.readAt Val a.view (Rect.unit off S.size inb).toLoadRect (h.unread X) = X :=
  (load_whole h X _).trans (View.ld_unit_zero h0 inb X)

/-- After one store of the whole buffer, it holds what was stored. -/
theorem read_store_whole [∀ e, Nonempty (Val e)] {κ : Kind} {sp : Space} (v : View sig κ sp S e) (f : v.ty.Contents Val)
    {off : Fin S.rank → ℕ} (h : off = fun _ => 0) (inb : ∀ a, off a + S.size a ≤ S.size a) (w : S.Idx → Val e) :
    v.read Val (v.writes Val f [⟨Rect.unit off S.size inb, w⟩]) = w :=
  (View.read_writes_eq_canon v f _ fun y => ⟨_, List.mem_singleton_self _, View.mem_set_unit_zero h inb y⟩).trans
    (View.canon_unit_zero h inb w)

/-- After a store of the whole buffer and two further stores, it holds the three pieces laid over one another. -/
theorem read_store_three [∀ e, Nonempty (Val e)] {κ : Kind} {sp : Space} (v : View sig κ sp S e) (f : v.ty.Contents Val)
    {off : Fin S.rank → ℕ} (h : off = fun _ => 0) (inb : ∀ a, off a + S.size a ≤ S.size a) (w : S.Idx → Val e)
    (p q : View.Piece Val S e) :
    v.read Val (v.writes Val f [p, q, ⟨Rect.unit off S.size inb, w⟩]) = View.canon [p, q, ⟨Rect.unit off S.size inb, w⟩] :=
  View.read_writes_eq_canon v f _ fun y => ⟨⟨Rect.unit off S.size inb, w⟩, by simp, View.mem_set_unit_zero h inb y⟩

end

/-- The zero offsets of a rank-2 and of a rank-3 rectangle. -/
theorem zero2 : (![0, 0] : Fin 2 → ℕ) = fun _ => 0 := by decide
/-- The origin in three axes. -/
theorem zero3 : (![0, 0, 0] : Fin 3 → ℕ) = fun _ => 0 := by decide

/-- The first 126 rows of a block of position rows. -/
def headRows (x3 : Vec F S128x1024 .f32) : Vec F S126x1024 .f32 :=
  View.ld x3 (Rect.unit (s := S128x1024) ![0, 0] S126x1024.size inb_S128x1024_S126x1024_0_0)

/-- The last 2 rows of a block of position rows: what the next grid point will find carried. -/
def tailRows (x3 : Vec F S128x1024 .f32) : Vec F S2x1024 .f32 :=
  View.ld x3 (Rect.unit (s := S128x1024) ![126, 0] S2x1024.size inb_S128x1024_S2x1024_126_0)

/-- The patch rows of one output block: the carried rows `s1`, `s2` first, then the block's own first 126 rows. -/
def patchBlock (x1 : Vec F S8x128x768 .f32) (x2 : Vec F S1024x768 .f32) (x3 : Vec F S128x1024 .f32) (x4 : Vec F S1x1024 .f32)
    (s1 : Vec F S2x8x768 .bf16) (s2 : Vec F S2x1024 .f32) : Vec F S128x8x1024 .f32 :=
  k0_pay7 x1 s1 s2 (headRows x3) x2 x4

/-- The first output block: the patch rows with row 0 overwritten by the class token `x5` and row 1 by the time token. -/
def firstBlock (x0 : Vec F S8x1 .f32) (x1 : Vec F S8x128x768 .f32) (x2 : Vec F S1024x768 .f32) (x3 : Vec F S128x1024 .f32) (x4 : Vec F S1x1024 .f32) (x5 : Vec F S1x1024 .f32) (x6 : Vec F S1024x256 .f32) (x7 : Vec F S1x1024 .f32) (x8 : Vec F S1024x1024 .f32) (x9 : Vec F S1x1024 .f32)
    (s1 : Vec F S2x8x768 .bf16) (s2 : Vec F S2x1024 .f32) : Vec F S128x8x1024 .f32 :=
  View.canon [(⟨Rect.unit (s := S128x8x1024) ![1, 0, 0] S1x8x1024.size inb_S128x8x1024_S1x8x1024_1_0_0, k0_pay1 (k0_pay2 x0 x6 x7 x8 x9)⟩ : View.Piece (Elt F) S128x8x1024 .f32),
    ⟨Rect.unit (s := S128x8x1024) ![0, 0, 0] S1x8x1024.size inb_S128x8x1024_S1x8x1024_0_0_0, k0_pay3 x5⟩,
    ⟨Rect.unit (s := S128x8x1024) ![0, 0, 0] S128x8x1024.size inb_S128x8x1024_S128x8x1024_0_0_0, patchBlock x1 x2 x3 x4 s1 s2⟩]

section
variable (c : Dev nD) (i : grid0.Coords)
  (arg1 : Memref sig .tc .vmem S8x1 .f32) (harg1 : arg1.IsWhole)
  (arg2 : Memref sig .tc .vmem S8x128x768 .f32) (harg2 : arg2.IsWhole)
  (arg3 : Memref sig .tc .vmem S1024x768 .f32) (harg3 : arg3.IsWhole)
  (arg4 : Memref sig .tc .vmem S128x1024 .f32) (harg4 : arg4.IsWhole)
  (arg5 : Memref sig .tc .vmem S1x1024 .f32) (harg5 : arg5.IsWhole)
  (arg6 : Memref sig .tc .vmem S1x1024 .f32) (harg6 : arg6.IsWhole)
  (arg7 : Memref sig .tc .vmem S1024x256 .f32) (harg7 : arg7.IsWhole)
  (arg8 : Memref sig .tc .vmem S1x1024 .f32) (harg8 : arg8.IsWhole)
  (arg9 : Memref sig .tc .vmem S1024x1024 .f32) (harg9 : arg9.IsWhole)
  (arg10 : Memref sig .tc .vmem S1x1024 .f32) (harg10 : arg10.IsWhole)
  (arg11 : Memref sig .tc .vmem S128x8x1024 .f32) (harg11 : arg11.IsWhole)
  (arg12 : Memref sig .tc .vmem S8x1024 .f32) (harg12 : arg12.IsWhole)
  (arg13 : Memref sig .tc .vmem S2x8x768 .bf16) (harg13 : arg13.IsWhole)
  (arg14 : Memref sig .tc .vmem S2x1024 .f32) (harg14 : arg14.IsWhole)
  (x0 : Vec F S8x1 .f32) (x1 : Vec F S8x128x768 .f32) (x2 : Vec F S1024x768 .f32) (x3 : Vec F S128x1024 .f32) (x4 : Vec F S1x1024 .f32) (x5 : Vec F S1x1024 .f32) (x6 : Vec F S1024x256 .f32) (x7 : Vec F S1x1024 .f32) (x8 : Vec F S1024x1024 .f32) (x9 : Vec F S1x1024 .f32)
  (s1 : Vec F S2x8x768 .bf16) (s2 : Vec F S2x1024 .f32)

/-- The ten input buffers hold `x0`, …, `x9`. -/
def inputs : sProp 𝕄 := iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9)

/-- What the body leaves: the inputs as they were, the output block `y`, the time-token scratch at anything, and the
    carried rows of the block just read. -/
def after (y : Vec F S128x8x1024 .f32) : sProp 𝕄 :=
  iprop(inputs c arg1 arg2 arg3 arg4 arg5 arg6 arg7 arg8 arg9 arg10 x0 x1 x2 x3 x4 x5 x6 x7 x8 x9
    ∗ owns (c : Thread nD τ) arg11 fullShare y ∗ (∃ d, owns (c : Thread nD τ) arg12 fullShare d)
    ∗ owns (c : Thread nD τ) arg13 fullShare (k0_pay5 x1) ∗ owns (c : Thread nD τ) arg14 fullShare (tailRows x3))

/-- What the body finds: the inputs, the output block and the time-token scratch at anything, and carried rows `s1`, `s2`. -/
def before : sProp 𝕄 :=
  iprop(inputs c arg1 arg2 arg3 arg4 arg5 arg6 arg7 arg8 arg9 arg10 x0 x1 x2 x3 x4 x5 x6 x7 x8 x9
    ∗ (∃ d, owns (c : Thread nD τ) arg11 fullShare d) ∗ (∃ d, owns (c : Thread nD τ) arg12 fullShare d)
    ∗ owns (c : Thread nD τ) arg13 fullShare s1 ∗ owns (c : Thread nD τ) arg14 fullShare s2)

set_option maxHeartbeats 2000000 in
/-- The body at the first grid point: it ends with the first output block, whatever the carried rows were. -/
theorem run_first (hc : isFirst i) (E : Set ℕ) (K : PUnit → sProp 𝕄) :
    iprop(before c arg1 arg2 arg3 arg4 arg5 arg6 arg7 arg8 arg9 arg10 arg11 arg12 arg13 arg14 x0 x1 x2 x3 x4 x5 x6 x7 x8 x9 s1 s2
        ∗ (after c arg1 arg2 arg3 arg4 arg5 arg6 arg7 arg8 arg9 arg10 arg11 arg12 arg13 arg14 x0 x1 x2 x3 x4 x5 x6 x7 x8 x9 (firstBlock x0 x1 x2 x3 x4 x5 x6 x7 x8 x9 s1 s2) -∗ K ⟨⟩))
      ⊢ wp frame (wpE (defs₀ (F := F)) Variants.none c none) E
          (cc0__body i arg1 harg1 arg2 harg2 arg3 harg3 arg4 harg4 arg5 harg5 arg6 harg6 arg7 harg7 arg8 harg8 arg9 harg9 arg10 harg10 arg11 harg11 arg12 harg12 arg13 harg13 arg14 harg14) K := by
  unfold before after inputs
  simp only [cc0__body_eq_skeleton]; unfold cc0__body_skel
  simp only [k0_part2_eq_skeleton, k0_part1_eq_skeleton]
  unfold owns
  iintro ⟨⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%d10, %f10, -, H10⟩, ⟨%ds0, %fs0, -, HS0⟩, ⟨%fs1, %hfs1, HS1⟩, ⟨%fs2, %hfs2, HS2⟩⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
  obtain rfl := harg13.eq_unread hfs1; obtain rfl := harg14.eq_unread hfs2
  sl_exec (disch := sl_exact hc)
  sl_step
  iapply Hk
  isplitl [H0 H1 H2 H3 H4 H5 H6 H7 H8 H9]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    iexists _; isplitr; · ipureintro; exact harg10.read_unread _
    iexact H9
  isplitl [H10]
  · iexists _; isplitr
    swap; · iexact H10
    ipureintro
    sl_unfold_words
    rw [View.readCov_unit_zero (S := S8x1024) _ zero2, load_all harg1 zero2, load_all harg7 zero2, load_all harg8 zero2,
      load_all harg9 zero2, load_all harg10 zero2, load_all harg6 zero2, load_all harg2 zero3, load_all harg13 zero3,
      load_all harg14 zero2, load_all harg3 zero2, load_all harg5 zero2, load_whole harg4]
    exact read_store_three (S := S128x8x1024) _ _ zero3 _ _ _ _
  isplitl [HS0]
  · iexists _, _; isplitr; swap; · iexact HS0
    ipureintro; rfl
  isplitl [HS1]
  · iexists _; isplitr
    swap; · iexact HS1
    ipureintro
    rw [load_all harg2 zero3]
    exact read_store_whole (S := S2x8x768) _ _ zero3 _ _
  iexists _; isplitr
  swap; · iexact HS2
  ipureintro
  rw [load_whole harg4]
  refine (read_store_whole (S := S2x1024) _ _ zero2 _ _).trans ?_
  exact shapeCast_id _ _

set_option maxHeartbeats 2000000 in
/-- The body at any other grid point: it ends with the patch rows, the carried rows first. -/
theorem run_later (hc : ¬isFirst i) (E : Set ℕ) (K : PUnit → sProp 𝕄) :
    iprop(before c arg1 arg2 arg3 arg4 arg5 arg6 arg7 arg8 arg9 arg10 arg11 arg12 arg13 arg14 x0 x1 x2 x3 x4 x5 x6 x7 x8 x9 s1 s2
        ∗ (after c arg1 arg2 arg3 arg4 arg5 arg6 arg7 arg8 arg9 arg10 arg11 arg12 arg13 arg14 x0 x1 x2 x3 x4 x5 x6 x7 x8 x9 (patchBlock x1 x2 x3 x4 s1 s2) -∗ K ⟨⟩))
      ⊢ wp frame (wpE (defs₀ (F := F)) Variants.none c none) E
          (cc0__body i arg1 harg1 arg2 harg2 arg3 harg3 arg4 harg4 arg5 harg5 arg6 harg6 arg7 harg7 arg8 harg8 arg9 harg9 arg10 harg10 arg11 harg11 arg12 harg12 arg13 harg13 arg14 harg14) K := by
  unfold before after inputs
  simp only [cc0__body_eq_skeleton]; unfold cc0__body_skel
  simp only [k0_part2_eq_skeleton]
  unfold owns
  iintro ⟨⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%d10, %f10, -, H10⟩, ⟨%ds0, %fs0, -, HS0⟩, ⟨%fs1, %hfs1, HS1⟩, ⟨%fs2, %hfs2, HS2⟩⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
  obtain rfl := harg13.eq_unread hfs1; obtain rfl := harg14.eq_unread hfs2
  sl_exec (disch := sl_exact hc)
  sl_step
  iapply Hk
  isplitl [H0 H1 H2 H3 H4 H5 H6 H7 H8 H9]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    iexists _; isplitr; · ipureintro; exact harg10.read_unread _
    iexact H9
  isplitl [H10]
  · iexists _; isplitr
    swap; · iexact H10
    ipureintro
    rw [load_all harg2 zero3, load_all harg13 zero3, load_all harg14 zero2, load_all harg3 zero2, load_all harg5 zero2,
      load_whole harg4]
    exact read_store_whole (S := S128x8x1024) _ _ zero3 _ _
  isplitl [HS0]
  · iexists _, _; isplitr; swap; · iexact HS0
    ipureintro; rfl
  isplitl [HS1]
  · iexists _; isplitr
    swap; · iexact HS1
    ipureintro
    rw [load_all harg2 zero3]
    exact read_store_whole (S := S2x8x768) _ _ zero3 _ _
  iexists _; isplitr
  swap; · iexact HS2
  ipureintro
  rw [load_whole harg4]
  refine (read_store_whole (S := S2x1024) _ _ zero2 _ _).trans ?_
  exact shapeCast_id _ _

end

end Cert.KernelIdeal.Hand

end
-- ==== Proof.Point.lean ====
/- The body at a grid point, over any float type: the buffers it is called with, what it leaves in them, and the
   obligation towards the region, for proof data that may name the output block and the carried rows or leave them open. -/
module

public import proofs.«01_k».proof.Proof.Body
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The buffers at a grid point -/

/-- The buffer of window 0 at point `t`. -/
abbrev buf0 (t : Fin cfg0.N) : Memref sig .tc .vmem S8x1 .f32 := win0_0.stage (cfg0.slots t 0)
/-- That buffer is whole. -/
abbrev whole0 (t : Fin cfg0.N) : (buf0 t).IsWhole := hstage0_0 ((cfg0.slots t 0).cast nbuf0_0)
/-- The buffer of window 1 at point `t`. -/
abbrev buf1 (t : Fin cfg0.N) : Memref sig .tc .vmem S8x128x768 .f32 := win0_1.stage (cfg0.slots t 1)
/-- That buffer is whole. -/
abbrev whole1 (t : Fin cfg0.N) : (buf1 t).IsWhole := hstage0_1 ((cfg0.slots t 1).cast nbuf0_1)
/-- The buffer of window 2 at point `t`. -/
abbrev buf2 (t : Fin cfg0.N) : Memref sig .tc .vmem S1024x768 .f32 := win0_2.stage (cfg0.slots t 2)
/-- That buffer is whole. -/
abbrev whole2 (t : Fin cfg0.N) : (buf2 t).IsWhole := hstage0_2 ((cfg0.slots t 2).cast nbuf0_2)
/-- The buffer of window 3 at point `t`. -/
abbrev buf3 (t : Fin cfg0.N) : Memref sig .tc .vmem S128x1024 .f32 := win0_3.stage (cfg0.slots t 3)
/-- That buffer is whole. -/
abbrev whole3 (t : Fin cfg0.N) : (buf3 t).IsWhole := hstage0_3 ((cfg0.slots t 3).cast nbuf0_3)
/-- The buffer of window 4 at point `t`. -/
abbrev buf4 (t : Fin cfg0.N) : Memref sig .tc .vmem S1x1024 .f32 := win0_4.stage (cfg0.slots t 4)
/-- That buffer is whole. -/
abbrev whole4 (t : Fin cfg0.N) : (buf4 t).IsWhole := hstage0_4 ((cfg0.slots t 4).cast nbuf0_4)
/-- The buffer of window 5 at point `t`. -/
abbrev buf5 (t : Fin cfg0.N) : Memref sig .tc .vmem S1x1024 .f32 := win0_5.stage (cfg0.slots t 5)
/-- That buffer is whole. -/
abbrev whole5 (t : Fin cfg0.N) : (buf5 t).IsWhole := hstage0_5 ((cfg0.slots t 5).cast nbuf0_5)
/-- The buffer of window 6 at point `t`. -/
abbrev buf6 (t : Fin cfg0.N) : Memref sig .tc .vmem S1024x256 .f32 := win0_6.stage (cfg0.slots t 6)
/-- That buffer is whole. -/
abbrev whole6 (t : Fin cfg0.N) : (buf6 t).IsWhole := hstage0_6 ((cfg0.slots t 6).cast nbuf0_6)
/-- The buffer of window 7 at point `t`. -/
abbrev buf7 (t : Fin cfg0.N) : Memref sig .tc .vmem S1x1024 .f32 := win0_7.stage (cfg0.slots t 7)
/-- That buffer is whole. -/
abbrev whole7 (t : Fin cfg0.N) : (buf7 t).IsWhole := hstage0_7 ((cfg0.slots t 7).cast nbuf0_7)
/-- The buffer of window 8 at point `t`. -/
abbrev buf8 (t : Fin cfg0.N) : Memref sig .tc .vmem S1024x1024 .f32 := win0_8.stage (cfg0.slots t 8)
/-- That buffer is whole. -/
abbrev whole8 (t : Fin cfg0.N) : (buf8 t).IsWhole := hstage0_8 ((cfg0.slots t 8).cast nbuf0_8)
/-- The buffer of window 9 at point `t`. -/
abbrev buf9 (t : Fin cfg0.N) : Memref sig .tc .vmem S1x1024 .f32 := win0_9.stage (cfg0.slots t 9)
/-- That buffer is whole. -/
abbrev whole9 (t : Fin cfg0.N) : (buf9 t).IsWhole := hstage0_9 ((cfg0.slots t 9).cast nbuf0_9)
/-- The buffer of window 10 at point `t`. -/
abbrev buf10 (t : Fin cfg0.N) : Memref sig .tc .vmem S128x8x1024 .f32 := win0_10.stage (cfg0.slots t 10)
/-- That buffer is whole. -/
abbrev whole10 (t : Fin cfg0.N) : (buf10 t).IsWhole := hstage0_10 ((cfg0.slots t 10).cast nbuf0_10)

/-- The time token's scratch buffer. -/
abbrev tokenBuf : Memref sig .tc .vmem S8x1024 .f32 := Memref.whole cc0_scratch0
/-- The carried pixels' scratch buffer. -/
abbrev pixelBuf : Memref sig .tc .vmem S2x8x768 .bf16 := Memref.whole cc0_scratch1
/-- The carried position rows' scratch buffer. -/
abbrev posBuf : Memref sig .tc .vmem S2x1024 .f32 := Memref.whole cc0_scratch2

/-- What the region starts from: the three scratch buffers at anything, and the generator register. -/
theorem start_eq (c : Dev nD) :
    (Pipeline.ΦA spec0 c : sProp 𝕄) = iprop(iprop((∃ d, owns (c : Thread nD τ) tokenBuf fullShare d)
      ∗ (∃ d, owns (c : Thread nD τ) pixelBuf fullShare d) ∗ (∃ d, owns (c : Thread nD τ) posBuf fullShare d)) ∗ (∃ r, prngReg c r)) := by
  unfold Pipeline.ΦA
  rw [scopedRest0_eq]
  simp only [tokenBuf, pixelBuf, posBuf, owns_whole]
  rfl

variable (m : (ℓ : Loc nD τ sig) → Buf (Elt F) ℓ)

/-! ## What each point leaves -/

/-- The pixel rows carried out of point `t`. -/
def pixelsOut (c : Dev nD) (t : Fin cfg0.N) : Vec F S2x8x768 .bf16 := k0_pay5 (iblk m c 1 t)

/-- The position rows carried out of point `t`. -/
def posOut (c : Dev nD) (t : Fin cfg0.N) : Vec F S2x1024 .f32 := tailRows (X0_3 m c t)

/-- The first output block at point `t`'s input blocks, over carried rows `s1`, `s2`. -/
def firstAt (c : Dev nD) (t : Fin cfg0.N) (s1 : Vec F S2x8x768 .bf16) (s2 : Vec F S2x1024 .f32) : Vec F S128x8x1024 .f32 :=
  firstBlock (iblk m c 0 t) (iblk m c 1 t) (iblk m c 2 t) (X0_3 m c t) (iblk m c 4 t) (iblk m c 5 t) (iblk m c 6 t) (iblk m c 7 t) (iblk m c 8 t) (iblk m c 9 t) s1 s2

/-- The patch rows at point `t`'s input blocks, over carried rows `s1`, `s2`. -/
def patchAt (c : Dev nD) (t : Fin cfg0.N) (s1 : Vec F S2x8x768 .bf16) (s2 : Vec F S2x1024 .f32) : Vec F S128x8x1024 .f32 :=
  patchBlock (iblk m c 1 t) (iblk m c 2 t) (X0_3 m c t) (iblk m c 4 t) s1 s2

/-- What point `t` leaves in the output's buffer over carried rows `s1`, `s2`. -/
def leftAt (c : Dev nD) (t : Fin cfg0.N) (s1 : Vec F S2x8x768 .bf16) (s2 : Vec F S2x1024 .f32) : Vec F S128x8x1024 .f32 :=
  if t.val = 0 then firstAt m c t s1 s2 else patchAt m c t s1 s2

/-- The scratch buffers after point `t`, and the generator register. -/
def carriedBy (c : Dev nD) (t : Fin cfg0.N) : sProp 𝕄 :=
  iprop(iprop((∃ d, owns (c : Thread nD τ) tokenBuf fullShare d) ∗ owns (c : Thread nD τ) pixelBuf fullShare (pixelsOut m c t)
    ∗ owns (c : Thread nD τ) posBuf fullShare (posOut m c t)) ∗ (∃ r, prngReg c r))

/-- Once the carried rows' names are forgotten, that is what the region started from. -/
theorem carriedBy_start (c : Dev nD) (t : Fin cfg0.N) : carriedBy m c t ⊢ (Pipeline.ΦA spec0 c : sProp 𝕄) := by
  rw [start_eq]
  unfold carriedBy
  iintro ⟨⟨HS0, HS1, HS2⟩, Hg⟩
  isplitl [HS0 HS1 HS2]
  · isplitl [HS0]; · iexact HS0
    isplitl [HS1]; · iexists _; iexact HS1
    iexists _; iexact HS2
  iexact Hg

/-- What the body finds at point `t`, with the carried rows as parameters. -/
abbrev beforeAt (c : Dev nD) (t : Fin cfg0.N) (s1 : Vec F S2x8x768 .bf16) (s2 : Vec F S2x1024 .f32) : sProp 𝕄 :=
  before c (buf0 t) (buf1 t) (buf2 t) (buf3 t) (buf4 t) (buf5 t) (buf6 t) (buf7 t) (buf8 t) (buf9 t) (buf10 t) tokenBuf pixelBuf posBuf (iblk m c 0 t) (iblk m c 1 t) (iblk m c 2 t) (X0_3 m c t) (iblk m c 4 t) (iblk m c 5 t) (iblk m c 6 t) (iblk m c 7 t) (iblk m c 8 t) (iblk m c 9 t) s1 s2
/-- What the body leaves at point `t`, with the output block as a parameter. -/
abbrev afterAt (c : Dev nD) (t : Fin cfg0.N) (y : Vec F S128x8x1024 .f32) : sProp 𝕄 :=
  after c (buf0 t) (buf1 t) (buf2 t) (buf3 t) (buf4 t) (buf5 t) (buf6 t) (buf7 t) (buf8 t) (buf9 t) (buf10 t) tokenBuf pixelBuf posBuf (iblk m c 0 t) (iblk m c 1 t) (iblk m c 2 t) (X0_3 m c t) (iblk m c 4 t) (iblk m c 5 t) (iblk m c 6 t) (iblk m c 7 t) (iblk m c 8 t) (iblk m c 9 t) y

/-- The body at point `t`, over any carried rows. -/
theorem run_point (c : Dev nD) (t : Fin cfg0.N) (s1 : Vec F S2x8x768 .bf16) (s2 : Vec F S2x1024 .f32) (K : PUnit → sProp 𝕄) :
    iprop(beforeAt m c t s1 s2 ∗ (afterAt m c t (leftAt m c t s1 s2) -∗ K ⟨⟩))
      ⊢ wp frame (wpE (defs₀ (F := F)) Variants.none c none) Set.univ (bodyAt0 t) K := by
  unfold leftAt
  by_cases h : t.val = 0
  · rw [if_pos h]
    exact run_first c (grid0.coords t) (buf0 t) (whole0 t) (buf1 t) (whole1 t) (buf2 t) (whole2 t) (buf3 t) (whole3 t) (buf4 t) (whole4 t) (buf5 t) (whole5 t) (buf6 t) (whole6 t) (buf7 t) (whole7 t) (buf8 t) (whole8 t) (buf9 t) (whole9 t) (buf10 t) (whole10 t) tokenBuf (Memref.isWhole_whole _) pixelBuf (Memref.isWhole_whole _) posBuf (Memref.isWhole_whole _) (iblk m c 0 t) (iblk m c 1 t) (iblk m c 2 t) (X0_3 m c t) (iblk m c 4 t) (iblk m c 5 t) (iblk m c 6 t) (iblk m c 7 t) (iblk m c 8 t) (iblk m c 9 t) s1 s2 ((isFirst_iff t).2 h) Set.univ K
  · rw [if_neg h]
    exact run_later c (grid0.coords t) (buf0 t) (whole0 t) (buf1 t) (whole1 t) (buf2 t) (whole2 t) (buf3 t) (whole3 t) (buf4 t) (whole4 t) (buf5 t) (whole5 t) (buf6 t) (whole6 t) (buf7 t) (whole7 t) (buf8 t) (whole8 t) (buf9 t) (whole9 t) (buf10 t) (whole10 t) tokenBuf (Memref.isWhole_whole _) pixelBuf (Memref.isWhole_whole _) posBuf (Memref.isWhole_whole _) (iblk m c 0 t) (iblk m c 1 t) (iblk m c 2 t) (X0_3 m c t) (iblk m c 4 t) (iblk m c 5 t) (iblk m c 6 t) (iblk m c 7 t) (iblk m c 8 t) (iblk m c 9 t) s1 s2 (fun h' => h ((isFirst_iff t).1 h')) Set.univ K

/-! ## The proof data -/

/-- The region's proof data on core `c`: the arrays as the region finds them, each input's buffer at its block, the
    output's at `out`, the invariant `kept`, full shares and nothing owed. -/
def dataWith (c : Dev nD) (out : Fin cfg0.N → Vec F S128x8x1024 .f32) (kept : Fin (cfg0.N + 1) → sProp 𝕄) :
    Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => X0_3 m c t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out t
  Φ := kept
  q _ := fullShare
  owed _ := 0

/-- The arrays are as the region finds them. -/
theorem arrays_with (c : Dev nD) (out : Fin cfg0.N → Vec F S128x8x1024 .f32) (kept : Fin (cfg0.N + 1) → sProp 𝕄) (w : Fin cfg0.W) : (dataWith m c out kept).A w = V m c (Pipeline.arrRef spec0 w) := by
  dsimp only [dataWith]

/-- The body leaves each input's block in place. -/
theorem left_in (c : Dev nD) (out : Fin cfg0.N → Vec F S128x8x1024 .f32) (kept : Fin (cfg0.N + 1) → sProp 𝕄) (t : Fin cfg0.N) :
    (dataWith m c out kept).after 0 t = iblk m c 0 t ∧ (dataWith m c out kept).after 1 t = iblk m c 1 t ∧ (dataWith m c out kept).after 2 t = iblk m c 2 t ∧ (dataWith m c out kept).after 3 t = X0_3 m c t ∧ (dataWith m c out kept).after 4 t = iblk m c 4 t ∧ (dataWith m c out kept).after 5 t = iblk m c 5 t ∧ (dataWith m c out kept).after 6 t = iblk m c 6 t ∧ (dataWith m c out kept).after 7 t = iblk m c 7 t ∧ (dataWith m c out kept).after 8 t = iblk m c 8 t ∧ (dataWith m c out kept).after 9 t = iblk m c 9 t := by
  dsimp only [dataWith]
  exact ⟨rfl, rfl, rfl, rfl, rfl, rfl, rfl, rfl, rfl, rfl⟩

/-- The body finds each input's block in its buffer, fetched at this point or earlier. -/
theorem found (c : Dev nD) (out : Fin cfg0.N → Vec F S128x8x1024 .f32) (kept : Fin (cfg0.N + 1) → sProp 𝕄) (t : Fin cfg0.N) (d0 d1 d2 d3 d4 d5 d6 d7 d8 d9) :
    (dataWith m c out kept).before 0 t d0 = iblk m c 0 t ∧ (dataWith m c out kept).before 1 t d1 = iblk m c 1 t ∧ (dataWith m c out kept).before 2 t d2 = iblk m c 2 t ∧ (dataWith m c out kept).before 3 t d3 = X0_3 m c t ∧ (dataWith m c out kept).before 4 t d4 = iblk m c 4 t ∧ (dataWith m c out kept).before 5 t d5 = iblk m c 5 t ∧ (dataWith m c out kept).before 6 t d6 = iblk m c 6 t ∧ (dataWith m c out kept).before 7 t d7 = iblk m c 7 t ∧ (dataWith m c out kept).before 8 t d8 = iblk m c 8 t ∧ (dataWith m c out kept).before 9 t d9 = iblk m c 9 t :=
  ⟨before0_0_of m (dataWith m c out kept) (arrays_with m c out kept 0) (fun t => (left_in m c out kept t).1) t d0,
    before0_1_of m (dataWith m c out kept) (arrays_with m c out kept 1) (fun t => (left_in m c out kept t).2.1) t d1,
    before0_2_of m (dataWith m c out kept) (arrays_with m c out kept 2) (fun t => (left_in m c out kept t).2.2.1) t d2,
    before0_3_of m (dataWith m c out kept) (arrays_with m c out kept 3) (fun t => (left_in m c out kept t).2.2.2.1) t d3,
    before0_4_of m (dataWith m c out kept) (arrays_with m c out kept 4) (fun t => (left_in m c out kept t).2.2.2.2.1) t d4,
    before0_5_of m (dataWith m c out kept) (arrays_with m c out kept 5) (fun t => (left_in m c out kept t).2.2.2.2.2.1) t d5,
    before0_6_of m (dataWith m c out kept) (arrays_with m c out kept 6) (fun t => (left_in m c out kept t).2.2.2.2.2.2.1) t d6,
    before0_7_of m (dataWith m c out kept) (arrays_with m c out kept 7) (fun t => (left_in m c out kept t).2.2.2.2.2.2.2.1) t d7,
    before0_8_of m (dataWith m c out kept) (arrays_with m c out kept 8) (fun t => (left_in m c out kept t).2.2.2.2.2.2.2.2.1) t d8,
    before0_9_of m (dataWith m c out kept) (arrays_with m c out kept 9) (fun t => (left_in m c out kept t).2.2.2.2.2.2.2.2.2) t d9⟩

/-! ## The body's obligation -/

/-- What the region calls the body with at point `t`: the invariant, the inputs, and `P` of the output's buffer. -/
def calledWith (c : Dev nD) (D : Dat τ (Elt F) Unit ℕ (UR sig nD τ) ℕ cfg0 c) (t : Fin cfg0.N) (P : sProp 𝕄) : sProp 𝕄 :=
  iprop(D.Φ t.castSucc ∗ D.owesAt () t.castSucc ∗ (∃ d, owns (c : Thread nD τ) (buf0 t) fullShare (D.before 0 t d)) ∗ (∃ d, owns (c : Thread nD τ) (buf1 t) fullShare (D.before 1 t d)) ∗ (∃ d, owns (c : Thread nD τ) (buf2 t) fullShare (D.before 2 t d)) ∗ (∃ d, owns (c : Thread nD τ) (buf3 t) fullShare (D.before 3 t d)) ∗ (∃ d, owns (c : Thread nD τ) (buf4 t) fullShare (D.before 4 t d)) ∗ (∃ d, owns (c : Thread nD τ) (buf5 t) fullShare (D.before 5 t d)) ∗ (∃ d, owns (c : Thread nD τ) (buf6 t) fullShare (D.before 6 t d)) ∗ (∃ d, owns (c : Thread nD τ) (buf7 t) fullShare (D.before 7 t d)) ∗ (∃ d, owns (c : Thread nD τ) (buf8 t) fullShare (D.before 8 t d)) ∗ (∃ d, owns (c : Thread nD τ) (buf9 t) fullShare (D.before 9 t d)) ∗ P)

/-- What the body owes the region at point `t`, `Q` of the output's buffer. -/
def returns (c : Dev nD) (D : Dat τ (Elt F) Unit ℕ (UR sig nD τ) ℕ cfg0 c) (t : Fin cfg0.N) (Q : sProp 𝕄) : sProp 𝕄 :=
  iprop(D.Φ t.succ ∗ D.owesAt () t.succ ∗ owns (c : Thread nD τ) (buf0 t) fullShare (D.after 0 t) ∗ owns (c : Thread nD τ) (buf1 t) fullShare (D.after 1 t) ∗ owns (c : Thread nD τ) (buf2 t) fullShare (D.after 2 t) ∗ owns (c : Thread nD τ) (buf3 t) fullShare (D.after 3 t) ∗ owns (c : Thread nD τ) (buf4 t) fullShare (D.after 4 t) ∗ owns (c : Thread nD τ) (buf5 t) fullShare (D.after 5 t) ∗ owns (c : Thread nD τ) (buf6 t) fullShare (D.after 6 t) ∗ owns (c : Thread nD τ) (buf7 t) fullShare (D.after 7 t) ∗ owns (c : Thread nD τ) (buf8 t) fullShare (D.after 8 t) ∗ owns (c : Thread nD τ) (buf9 t) fullShare (D.after 9 t) ∗ Q)

set_option maxHeartbeats 2000000 in
/-- The body meets its obligation at point `t`, if the invariant gives it carried rows fit for `Q` and takes back those
    it leaves. -/
theorem body_ok (c : Dev nD) (out : Fin cfg0.N → Vec F S128x8x1024 .f32) (kept : Fin (cfg0.N + 1) → sProp 𝕄) (t : Fin cfg0.N) (P Q : sProp 𝕄) (fit : Vec F S2x8x768 .bf16 → Vec F S2x1024 .f32 → Prop)
    (hrows : kept t.castSucc ⊢ iprop(∃ s1 : Vec F S2x8x768 .bf16, ∃ s2 : Vec F S2x1024 .f32, ⌜fit s1 s2⌝
      ∗ (∃ d, owns (c : Thread nD τ) tokenBuf fullShare d) ∗ owns (c : Thread nD τ) pixelBuf fullShare s1
      ∗ owns (c : Thread nD τ) posBuf fullShare s2 ∗ (∃ r, prngReg c r)))
    (hback : carriedBy m c t ⊢ kept t.succ)
    (hP : P ⊢ iprop(∃ d, owns (c : Thread nD τ) (buf10 t) fullShare d))
    (hQ : ∀ s1 s2, fit s1 s2 → owns (c : Thread nD τ) (buf10 t) fullShare (leftAt m c t s1 s2) ⊢ Q) :
    calledWith c (dataWith m c out kept) t P
      ⊢ wp frame (wpE (defs₀ (F := F)) Variants.none c none) Set.univ (bodyAt0 t) (fun _ => returns c (dataWith m c out kept) t Q) := by
  unfold calledWith returns
  obtain ⟨l0, l1, l2, l3, l4, l5, l6, l7, l8, l9⟩ := left_in m c out kept t
  rw [show (dataWith m c out kept).owesAt () t.succ = (dataWith m c out kept).owesAt () t.castSucc from rfl,
    show (dataWith m c out kept).Φ t.succ = kept t.succ from rfl, show (dataWith m c out kept).Φ t.castSucc = kept t.castSucc from rfl,
    l0, l1, l2, l3, l4, l5, l6, l7, l8, l9]
  iintro ⟨HI, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, HP⟩
  obtain ⟨f0, f1, f2, f3, f4, f5, f6, f7, f8, f9⟩ := found m c out kept t d0 d1 d2 d3 d4 d5 d6 d7 d8 d9
  rw [f0, f1, f2, f3, f4, f5, f6, f7, f8, f9]
  ihave HI' := hrows $$ HI
  icases HI' with ⟨%s1, %s2, %hs, HS0, HS1, HS2, Hg⟩
  ihave H10 := hP $$ HP
  iapply run_point m c t s1 s2
  isplitl [H0 H1 H2 H3 H4 H5 H6 H7 H8 H9 H10 HS0 HS1 HS2]
  · unfold beforeAt before inputs
    isplitl [H0 H1 H2 H3 H4 H5 H6 H7 H8 H9]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [H10]; · iexact H10
    isplitl [HS0]; · iexact HS0
    isplitl [HS1]; · iexact HS1
    iexact HS2
  unfold afterAt after inputs
  iintro ⟨⟨H0, H1, H2, H3, H4, H5, H6, H7, H8, H9⟩, H10, HS0, HS1, HS2⟩
  isplitl [HS0 HS1 HS2 Hg]
  · iapply hback
    unfold carriedBy
    isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iapply hQ s1 s2 hs
  iexact H10

/-- The region's call at point `t` is the body on that point's buffers. -/
theorem body_row (t : Fin cfg0.N) : defs₀ (F := F) .tc cfg0.body (cfg0.bodyArgs t (cfg0.slots t)) = bodyAt0 t := by
  unfold defs₀; rw [Defs.onTc_tc]

end Cert.KernelIdeal.Hand

end
-- ==== Proof.Frame.lean ====
/- The kernel's program over any float type: it ends, its argument arrays are as launched and every counter is zero.

   Nothing is said of what it returns.  The first point's product takes in whatever the scratch buffers held, and over an
   arbitrary float type nothing is known of such a product row by row; the output and the carried rows are therefore left
   open throughout. -/
module

public import proofs.«01_k».proof.Proof.Point

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers written after the region: the transposed result. -/
def written : Finset (Ref sig .tc) := {main_v6}

/-- The operations after the region write nothing else. -/
theorem tail_writes : ∀ ops ∈ ([hostOps1] : List (List (HloOp τ sig (Elt F)))), ∀ op ∈ ops,
    ∀ b : Ref sig .tc, Proc.devRef .tc b ∈ op.writes → b ∈ written := by
  intro ops hops op hop
  simp only [List.mem_cons, List.mem_nil_iff, or_false] at hops
  rcases hops with rfl
  · simp only [hostOps1, List.mem_cons, List.mem_nil_iff, or_false] at hop
    rcases hop with rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- The window whose contents are left open: the output's. -/
def leftOpen : Fin 11 → Bool := fun w => w.val == 10

/-- The proof data: no contents named of the output, and the scratch buffers at anything before every point. -/
def openData (_ : Fin 1) (c : Dev nD) : Dat τ (Elt F) Unit ℕ (UR sig nD τ) ℕ cfg0 c :=
  dataWith m c (fun t => Pipeline.Dat.unnamed (cfg := cfg0) 10 t) (fun _ => Pipeline.ΦA spec0 c)

/-- The arrays are as the region finds them. -/
theorem openData_arrays (c : Dev nD) (w : Fin cfg0.W) : (openData m 0 c).A w = V m c (Pipeline.arrRef spec0 w) :=
  arrays_with m c _ _ w

/-- The scratch buffers hold some rows. -/
theorem some_rows (c : Dev nD) :
    (Pipeline.ΦA spec0 c : sProp 𝕄) ⊢ iprop(∃ s1 : Vec F S2x8x768 .bf16, ∃ s2 : Vec F S2x1024 .f32, ⌜True⌝
      ∗ (∃ d, owns (c : Thread nD τ) tokenBuf fullShare d) ∗ owns (c : Thread nD τ) pixelBuf fullShare s1
      ∗ owns (c : Thread nD τ) posBuf fullShare s2 ∗ (∃ r, prngReg c r)) := by
  rw [start_eq]
  iintro ⟨⟨HS0, ⟨%s1, HS1⟩, ⟨%s2, HS2⟩⟩, Hg⟩
  iexists s1, s2
  isplitr; · ipureintro; trivial
  isplitl [HS0]; · iexact HS0
  isplitl [HS1]; · iexact HS1
  isplitl [HS2]; · iexact HS2
  iexact Hg

/-- The body meets the obligation at every point. -/
theorem open_ok (c : Dev nD) (t : Fin cfg0.N) :
    calledWith c (openData m 0 c) t iprop(∃ d, owns (c : Thread nD τ) (buf10 t) fullShare d)
      ⊢ wp frame (wpE (defs₀ (F := F)) Variants.none c none) Set.univ (bodyAt0 t)
          (fun _ => returns c (openData m 0 c) t iprop(∃ d, owns (c : Thread nD τ) (buf10 t) fullShare d)) :=
  body_ok m c _ _ t _ _ (fun _ _ => True) (some_rows c) (carriedBy_start m c t) .rfl fun s1 s2 _ => by
    iintro H; iexists _; iexact H

/-- The region's obligation for the body, at every point. -/
theorem open_obligation (c : Dev nD) : BodyObligation (openData m 0 c) (defs₀ (F := F)) Variants.none () Set.univ leftOpen := fun t => by
  rw [bigSep_W0, bigSep_W0, body_row]
  exact triple_restated (open_ok m c t) rfl .rfl fun _ => .rfl

set_option backward.isDefEq.respectTransparency.types false in
set_option maxHeartbeats 800000 in
/-- Every execution ends; the input arrays and the buffers outside the region are as before it, and every counter is zero. -/
theorem run_open : θ_run defs (onTc (τ := τ) (main (F := F))) (s₀ m ρ)
    (fun r => (Pipeline.RDat.FramePostR (cfgs 0) (fun c => (openData m 0 c).toRForget leftOpen) written (V m)) r ∧ r.2.sem = fun _ => 0) :=
  Pipeline.θ_run_frame_around_T_forget (Q' := _) cfgs (openData m) (0 : Fin 1) launch0 defs₀ Variants.none leftOpen written m ρ main
    (hbody := fun c => (open_obligation m c).loose) (hshare := fun c => (openData m 0 c).share_full fun _ => rfl)
    (howed := fun _ _ => rfl) (V₀ := V0 m) (opss := [hostOps1]) (hsub := sfx_sub) (hfresh := sfx_fresh) (hkeep := sfx_keeps) (hT := tail_writes)
    (hmain := hmain m Variants.none) (hA := openData_arrays m) (hΦ := fun _ _ => rfl)

/-- From such a run: every argument array is as launched. -/
theorem args_kept (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat written (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(Pipeline.RDat.FramePostR.arr_in h c 1 rfl).trans ((hA c 1).trans (V_main_arg0 m c)),
      ((h c).2 main_arg1 (Finset.mem_sdiff.mpr ⟨Pipeline.mem_restRefs_of main_arg1 (by decide) (by decide), by decide⟩)).trans (V_main_arg1 m c),
      (Pipeline.RDat.FramePostR.arr_in h c 2 rfl).trans ((hA c 2).trans (V_main_arg2 m c)),
      ((h c).2 main_arg3 (Finset.mem_sdiff.mpr ⟨Pipeline.mem_restRefs_of main_arg3 (by decide) (by decide), by decide⟩)).trans (V_main_arg3 m c),
      (Pipeline.RDat.FramePostR.arr_in h c 3 rfl).trans ((hA c 3).trans (V_main_arg4 m c)),
      ((h c).2 main_arg5 (Finset.mem_sdiff.mpr ⟨Pipeline.mem_restRefs_of main_arg5 (by decide) (by decide), by decide⟩)).trans (V_main_arg5 m c),
      (Pipeline.RDat.FramePostR.arr_in h c 6 rfl).trans ((hA c 6).trans (V_main_arg6 m c)),
      ((h c).2 main_arg7 (Finset.mem_sdiff.mpr ⟨Pipeline.mem_restRefs_of main_arg7 (by decide) (by decide), by decide⟩)).trans (V_main_arg7 m c),
      (Pipeline.RDat.FramePostR.arr_in h c 8 rfl).trans ((hA c 8).trans (V_main_arg8 m c)),
      ((h c).2 main_arg9 (Finset.mem_sdiff.mpr ⟨Pipeline.mem_restRefs_of main_arg9 (by decide) (by decide), by decide⟩)).trans (V_main_arg9 m c)⟩) h

/-- Every execution ends with the argument arrays as launched and every counter at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (args_kept m ρ (fun c => (openData m 0 c).toRForget leftOpen) (openData_arrays m)
    ((θ_run defs _ _).mono (fun _ h => h.1) (run_open m ρ))) ((θ_run defs _ _).mono (fun _ h => h.2) (run_open m ρ))

end Cert.KernelIdeal.Hand

end
-- ==== Proof.Spec.lean ====
/- What both programs compute, as formulas over the extended reals.

   The result has 1026 rows for each of 8 images.  Row 0 is the class token, row 1 the time token of the image's time
   step, and row `2 + l` the embedding of patch `l` plus its position row. -/
module

public import Idealize.ShloMosaic.PureOps.Ideal
public import Idealize.ShloMosaic.Lib.IdealHost

@[expose] public section

noncomputable section

namespace Cert.Tokens

open Idealize.ShloMosaic

/-- The `k`-th frequency of the time embedding, `exp (-k · log 10000 / 128)`, its factor the float the kernel prints. -/
def frequency (k : Fin 128) : EReal :=
  Ideal.exp (Ideal.ofBits .f32 0xBD935D8E#32 * FloatOps.sitofp (F := Ideal) .f32 (BitVec.ofNat 32 k.val))

/-- Entry `h` of the hidden layer: the cosines and sines of the time step times the frequencies, through a linear map. -/
def hidden (fs : EReal) (w0 : Fin 1024 → Fin 256 → EReal) (b0 : Fin 1024 → EReal) (h : Fin 1024) : EReal :=
  ∑ k : Fin 128, Ideal.cos (fs * frequency k) * w0 h ⟨k.val, by omega⟩
    + ∑ k : Fin 128, Ideal.sin (fs * frequency k) * w0 h ⟨128 + k.val, by omega⟩ + b0 h

/-- Entry `n` of the time token: the hidden layer times its logistic, through a second linear map. -/
def timeToken (fs : EReal) (w0 : Fin 1024 → Fin 256 → EReal) (b0 : Fin 1024 → EReal) (w2 : Fin 1024 → Fin 1024 → EReal)
    (b2 : Fin 1024 → EReal) (n : Fin 1024) : EReal :=
  ∑ h : Fin 1024, hidden fs w0 b0 h * Ideal.logistic (hidden fs w0 b0 h) * w2 n h + b2 n

/-- One entry of a patch token: pixels times weights, plus the position entry, plus the bias. -/
def patchToken (px w : Fin 768 → EReal) (pos bias : EReal) : EReal :=
  ∑ k : Fin 768, px k * w k + pos + bias

/-- One entry of the result, from the argument arrays. -/
def entry (px : Fin 8 → Fin 1024 → Fin 768 → EReal) (fs : Fin 8 → EReal) (w : Fin 1024 → Fin 768 → EReal) (bias : Fin 1024 → EReal)
    (pos : Fin 1025 → Fin 1024 → EReal) (cls : Fin 1024 → EReal) (w0 : Fin 1024 → Fin 256 → EReal) (b0 : Fin 1024 → EReal)
    (w2 : Fin 1024 → Fin 1024 → EReal) (b2 : Fin 1024 → EReal) (b : Fin 8) (r : Fin 1026) (n : Fin 1024) : EReal :=
  if r.val = 0 then cls n
  else if h : r.val < 2 then timeToken (fs b) w0 b0 w2 b2 n
  else patchToken (px b ⟨r.val - 2, by omega⟩) (w n) (pos ⟨r.val - 2, by omega⟩ n) (bias n)

/-- The factor of the exponent: `-log 10000` as a float, divided by 128, is the float the kernel prints. -/
theorem factor_div (s : EReal) :
    Ideal.div (Ideal.ofBits .f32 0xC1135D8E#32 * s) (Ideal.ofBits .f32 0x43000000#32) = Ideal.ofBits .f32 0xBD935D8E#32 * s := by
  have e1 : Ideal.ofBits .f32 0xC1135D8E#32 = ((-9657742 / 2 ^ 20 : ℝ) : EReal) := by
    simp [Ideal.ofBits, Ideal.ieee, -EReal.coe_mul, -EReal.coe_neg]; norm_num
  have e2 : Ideal.ofBits .f32 0x43000000#32 = ((128 : ℝ) : EReal) := by
    simp [Ideal.ofBits, Ideal.ieee, -EReal.coe_mul, -EReal.coe_neg]; norm_num
  have e3 : Ideal.ofBits .f32 0xBD935D8E#32 = ((-9657742 / 2 ^ 27 : ℝ) : EReal) := by
    simp [Ideal.ofBits, Ideal.ieee, -EReal.coe_mul, -EReal.coe_neg]; norm_num
  rw [e2, Ideal.div_coe (by norm_num), e1, e3, mul_right_comm, ← EReal.coe_mul]
  norm_num

/-- The frequency as the reference computes it. -/
theorem frequency_eq (k : Fin 128) :
    Ideal.exp (Ideal.div (Ideal.ofBits .f32 0xC1135D8E#32 * FloatOps.sitofp (F := Ideal) .f32 (BitVec.ofNat 32 k.val))
      (Ideal.ofBits .f32 0x43000000#32)) = frequency k :=
  congrArg Ideal.exp (factor_div _)

end Cert.Tokens

end
-- ==== Proof.Blocks.lean ====
/- The blocks of the kernel's body, read at an index over the extended reals. -/
module

public import proofs.«01_k».proof.Proof.Body
public import proofs.«01_k».proof.Proof.Spec
public import Idealize.ShloMosaic.Lib.Pointwise
public import Idealize.ShloMosaic.Lib.Pipeline.ValueKit

@[expose] public section

set_option maxRecDepth 16384

noncomputable section

namespace Cert.KernelIdeal.Hand

open Cert.KernelIdeal.Gen Cert.Tokens
open Idealize.ShloMosaic Idealize.ShloMosaic.TcCoe Idealize.SL.Sem

variable (x0 : FVec Ideal S8x1 .f32) (x1 : FVec Ideal S8x128x768 .f32) (x2 : FVec Ideal S1024x768 .f32) (x3 : FVec Ideal S128x1024 .f32)
  (x4 : FVec Ideal S1x1024 .f32) (x5 : FVec Ideal S1x1024 .f32) (x6 : FVec Ideal S1024x256 .f32) (x7 : FVec Ideal S1x1024 .f32)
  (x8 : FVec Ideal S1024x1024 .f32) (x9 : FVec Ideal S1x1024 .f32)
  (s1 : FVec Ideal S2x8x768 .bf16) (s2 : FVec Ideal S2x1024 .f32)

/-- Rows 0 and 1 of a block are made of the carried rows. -/
theorem patchBlock_carried (i : Fin 128) (hi : i.val < 2) (b : Fin 8) (n : Fin 1024) :
    patchBlock (F := Ideal) x1 x2 x3 x4 s1 s2 (ix3 i b n)
      = patchToken (fun k => s1 (ix3 ⟨i.val, hi⟩ b k)) (fun k => x2 (ix2 n k)) (s2 (ix2 ⟨i.val, hi⟩ n)) (x4 (ix2 0 n)) := by
  pointwise [patchBlock, k0_pay7, k0_pay4, headRows, patchToken]
  simp only [dif_pos hi]

/-- The other rows of a block are made of the block's own rows, two places earlier. -/
theorem patchBlock_own (i : Fin 128) (hi : 2 ≤ i.val) (b : Fin 8) (n : Fin 1024) :
    patchBlock (F := Ideal) x1 x2 x3 x4 s1 s2 (ix3 i b n)
      = patchToken (fun k => x1 (ix3 b ⟨i.val - 2, by omega⟩ k)) (fun k => x2 (ix2 n k)) (x3 (ix2 ⟨i.val - 2, by omega⟩ n))
          (x4 (ix2 0 n)) := by
  pointwise [patchBlock, k0_pay7, k0_pay4, headRows, patchToken]
  simp only [dif_neg (Nat.not_lt.2 hi)]

/-- The carried pixels are the last two rows of the block, image by image. -/
theorem carried_apply (i : Fin 2) (b : Fin 8) (k : Fin 768) :
    k0_pay5 (F := Ideal) x1 (ix3 i b k) = x1 (ix3 b ⟨126 + i.val, by omega⟩ k) := by
  pointwise [k0_pay5, k0_pay4]

/-- The carried position rows are the last two rows of the block. -/
theorem tailRows_apply (i : Fin 2) (n : Fin 1024) :
    tailRows (F := Ideal) x3 (ix2 i n) = x3 (ix2 ⟨126 + i.val, by omega⟩ n) := by
  pointwise [tailRows]

/-- The row stored over row 1 is the time token. -/
theorem token_apply (b : Fin 8) (n : Fin 1024) :
    k0_pay1 (F := Ideal) (k0_pay2 (F := Ideal) x0 x6 x7 x8 x9 : Vec Ideal S8x1024 .f32) (ix3 0 b n)
      = timeToken (x0 (ix2 b 0)) (fun h k => x6 (ix2 h k)) (fun h => x7 (ix2 0 h)) (fun n h => x8 (ix2 n h)) (fun n => x9 (ix2 0 n)) n := by
  pointwise [k0_pay1, k0_pay2, timeToken, Tokens.hidden, frequency]

/-- The row stored over row 0 is the class token. -/
theorem cls_apply (b : Fin 8) (n : Fin 1024) : k0_pay3 (F := Ideal) x5 (ix3 0 b n) = x5 (ix2 0 n) := by
  pointwise [k0_pay3]

/-- A row of the block sits at the row its rectangle starts at. -/
theorem row_emb (o : ℕ) (inb : ∀ a, (![o, 0, 0] : Fin 3 → ℕ) a + S1x8x1024.size a ≤ S128x8x1024.size a) (i : Fin 128) (hi : i.val = o)
    (b : Fin 8) (n : Fin 1024) :
    (Rect.unit (s := S128x8x1024) ![o, 0, 0] S1x8x1024.size inb).emb (ix3 0 b n : S1x8x1024.Idx) = (ix3 i b n : S128x8x1024.Idx) := by
  funext a
  apply Fin.ext
  fin_cases a
  · show o + 1 * 0 = i.val
    omega
  · show 0 + 1 * b.val = b.val
    omega
  · show 0 + 1 * n.val = n.val
    omega

/-- Another row is not in that rectangle. -/
theorem not_mem_row (o : ℕ) (inb : ∀ a, (![o, 0, 0] : Fin 3 → ℕ) a + S1x8x1024.size a ≤ S128x8x1024.size a) (i : Fin 128) (hi : i.val ≠ o)
    (b : Fin 8) (n : Fin 1024) :
    (ix3 i b n : S128x8x1024.Idx) ∉ (Rect.unit (s := S128x8x1024) ![o, 0, 0] S1x8x1024.size inb).set := by
  rw [Rect.mem_set_unit]
  intro h
  have h0 : o ≤ i.val ∧ i.val < o + 1 := h 0
  omega

/-- Pieces laid over one another, read at an index of the topmost one: that piece's entry. -/
theorem canon_upper {S : Shape} {e : EltTy} (r : Rect S) (p : r.shape.Idx → Elt Ideal e) (L : List (View.Piece (Elt Ideal) S e)) (x : r.shape.Idx)
    (y : S.Idx) (hy : r.emb x = y) : View.canon (⟨r, p⟩ :: L) y = p x :=
  hy ▸ View.canon_cons_emb r p L x

/-- Read outside the topmost piece: what the pieces below it hold. -/
theorem canon_below {S : Shape} {e : EltTy} (r : Rect S) (p : r.shape.Idx → Elt Ideal e) (L : List (View.Piece (Elt Ideal) S e)) (y : S.Idx)
    (hy : y ∉ r.set) : View.canon (⟨r, p⟩ :: L) y = View.canon L y :=
  View.canon_cons_of_not_mem ⟨r, p⟩ L hy

/-- Two rows laid over a block: row 1 is `p`, row 0 is `q`, and the rest is the block `w`. -/
theorem overlay_apply (p q : Vec Ideal S1x8x1024 .f32) (w : Vec Ideal S128x8x1024 .f32) (i : Fin 128) (b : Fin 8) (n : Fin 1024) :
    View.canon [(⟨Rect.unit (s := S128x8x1024) ![1, 0, 0] S1x8x1024.size inb_S128x8x1024_S1x8x1024_1_0_0, p⟩ : View.Piece (Elt Ideal) S128x8x1024 .f32),
        ⟨Rect.unit (s := S128x8x1024) ![0, 0, 0] S1x8x1024.size inb_S128x8x1024_S1x8x1024_0_0_0, q⟩,
        ⟨Rect.unit (s := S128x8x1024) ![0, 0, 0] S128x8x1024.size inb_S128x8x1024_S128x8x1024_0_0_0, w⟩] (ix3 i b n)
      = if i.val = 0 then q (ix3 0 b n) else if i.val = 1 then p (ix3 0 b n) else w (ix3 i b n) := by
  by_cases h1 : i.val = 1
  · have h0 : i.val ≠ 0 := by omega
    rw [if_neg h0, if_pos h1]
    exact canon_upper (Rect.unit (s := S128x8x1024) ![1, 0, 0] S1x8x1024.size inb_S128x8x1024_S1x8x1024_1_0_0) p _ (ix3 0 b n : S1x8x1024.Idx) _ (row_emb 1 inb_S128x8x1024_S1x8x1024_1_0_0 i h1 b n)
  refine (canon_below (Rect.unit (s := S128x8x1024) ![1, 0, 0] S1x8x1024.size inb_S128x8x1024_S1x8x1024_1_0_0) p _ _ (not_mem_row 1 inb_S128x8x1024_S1x8x1024_1_0_0 i h1 b n)).trans ?_
  by_cases h0 : i.val = 0
  · rw [if_pos h0]
    exact canon_upper (Rect.unit (s := S128x8x1024) ![0, 0, 0] S1x8x1024.size inb_S128x8x1024_S1x8x1024_0_0_0) q _ (ix3 0 b n : S1x8x1024.Idx) _ (row_emb 0 inb_S128x8x1024_S1x8x1024_0_0_0 i h0 b n)
  refine (canon_below (Rect.unit (s := S128x8x1024) ![0, 0, 0] S1x8x1024.size inb_S128x8x1024_S1x8x1024_0_0_0) q _ _ (not_mem_row 0 inb_S128x8x1024_S1x8x1024_0_0_0 i h0 b n)).trans ?_
  rw [if_neg h0, if_neg h1]
  exact congrFun (View.canon_unit_zero zero3 _ w) _

/-- The first block at an index: the class token, the time token, then the block's own rows.  The carried rows do not
    occur. -/
theorem firstBlock_apply (i : Fin 128) (b : Fin 8) (n : Fin 1024) :
    firstBlock (F := Ideal) x0 x1 x2 x3 x4 x5 x6 x7 x8 x9 s1 s2 (ix3 i b n)
      = if i.val = 0 then x5 (ix2 0 n)
        else if h : i.val < 2 then
          timeToken (x0 (ix2 b 0)) (fun h k => x6 (ix2 h k)) (fun h => x7 (ix2 0 h)) (fun n h => x8 (ix2 n h)) (fun n => x9 (ix2 0 n)) n
        else patchToken (fun k => x1 (ix3 b ⟨i.val - 2, by omega⟩ k)) (fun k => x2 (ix2 n k)) (x3 (ix2 ⟨i.val - 2, by omega⟩ n))
          (x4 (ix2 0 n)) := by
  unfold firstBlock
  rw [overlay_apply, cls_apply, token_apply]
  by_cases h0 : i.val = 0
  · rw [if_pos h0, if_pos h0]
  rw [if_neg h0, if_neg h0]
  by_cases h1 : i.val = 1
  · have h2 : i.val < 2 := by omega
    rw [if_pos h1, dif_pos h2]
  have h2 : ¬i.val < 2 := by omega
  rw [if_neg h1, dif_neg h2]
  exact patchBlock_own _ _ _ _ _ _ i (by omega) b n

/-- What the first point leaves in the output block does not depend on what the scratch buffers held. -/
theorem firstBlock_carries (s1' : FVec Ideal S2x8x768 .bf16) (s2' : FVec Ideal S2x1024 .f32) :
    firstBlock (F := Ideal) x0 x1 x2 x3 x4 x5 x6 x7 x8 x9 s1 s2 = firstBlock (F := Ideal) x0 x1 x2 x3 x4 x5 x6 x7 x8 x9 s1' s2' := by
  funext j
  idx_vars j
  exact (firstBlock_apply ..).trans (firstBlock_apply ..).symm

end Cert.KernelIdeal.Hand

end
-- ==== Proof.Region.lean ====
/- The pipelined region of the kernel over the extended reals: what the output's blocks hold after each grid point, what
   the scratch buffers carry from one point to the next, and the run of the whole program.

   After grid point `t` the carried rows are the last two of the blocks read there.  The output block of point 0 is the
   first block; that of a later point is the patch rows over the rows carried from the point before. -/
module

public import proofs.«01_k».proof.Proof.Blocks
public import proofs.«01_k».proof.Proof.Point
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## What each point leaves -/

/-- What point `t` leaves in the output's buffer. -/
def blockOut (c : Dev nD) (t : Fin cfg0.N) : Vec Ideal S128x8x1024 .f32 :=
  if t.val = 0 then firstAt m c t (fun _ => (0 : EReal)) (fun _ => (0 : EReal))
  else patchAt m c t (pixelsOut m c ⟨t.val - 1, by omega⟩) (posOut m c ⟨t.val - 1, by omega⟩)

/-- Over fitting carried rows, the rows the point before carried out unless `t` is the first, a point leaves `blockOut`:
    the first point whatever the scratch buffers held. -/
theorem leftAt_eq (c : Dev nD) (t : Fin cfg0.N) (s1 : Vec Ideal S2x8x768 .bf16) (s2 : Vec Ideal S2x1024 .f32)
    (hs : t.val ≠ 0 → s1 = pixelsOut m c ⟨t.val - 1, by omega⟩ ∧ s2 = posOut m c ⟨t.val - 1, by omega⟩) :
    leftAt m c t s1 s2 = blockOut m c t := by
  unfold leftAt blockOut
  by_cases h : t.val = 0
  · rw [if_pos h, if_pos h]
    exact firstBlock_carries ..
  · obtain ⟨rfl, rfl⟩ := hs h
    rw [if_neg h, if_neg h]

/-! ## The proof data -/

/-- The invariant before position `n`: before the first point what the region starts from, later what the point before left. -/
def invariant (c : Dev nD) : (n : ℕ) → n ≤ cfg0.N → sProp 𝕄
  | 0, _ => Pipeline.ΦA spec0 c
  | n + 1, hn => carriedBy m c ⟨n, hn⟩

/-- Before the first point: what the region starts from. -/
theorem invariant_first (c : Dev nD) (n : ℕ) (h : n ≤ cfg0.N) (hz : n = 0) : invariant m c n h = Pipeline.ΦA spec0 c := by
  subst hz; rfl

/-- Before a later point: what the point before left. -/
theorem invariant_later (c : Dev nD) (n : ℕ) (h : n ≤ cfg0.N) (hz : n ≠ 0) :
    invariant m c n h = carriedBy m c ⟨n - 1, by omega⟩ := by
  cases n with
  | zero => exact absurd rfl hz
  | succ n => rfl

/-- The region's proof data: the output's buffer at `blockOut`, and the invariant above. -/
def data (_ : Fin 1) (c : Dev nD) : Dat τ (Elt Ideal) Unit ℕ (UR sig nD τ) ℕ cfg0 c :=
  dataWith m c (blockOut m c) (fun t => invariant m c t.val (Nat.le_of_lt_succ t.isLt))

/-- The arrays are as the region finds them. -/
theorem data_arrays (c : Dev nD) (w : Fin cfg0.W) : (data m 0 c).A w = V m c (Pipeline.arrRef spec0 w) :=
  arrays_with m c _ _ w

/-- The invariant before point `t`. -/
theorem data_invariant (c : Dev nD) (t : Fin cfg0.N) : (data m 0 c).Φ t.castSucc = invariant m c t.val (Nat.le_of_lt t.isLt) := by
  dsimp only [data, dataWith]; exact Pipeline.Dat.Φ_castSucc (invariant m c) t

/-- The body leaves `blockOut` in the output's buffer. -/
theorem left10 (c : Dev nD) (t : Fin cfg0.N) : (data m 0 c).after 10 t = blockOut m c t := by dsimp only [data, dataWith]

/-! ## The body's obligation -/

/-- The scratch buffers before point `t` hold fitting rows. -/
theorem invariant_rows (c : Dev nD) (t : Fin cfg0.N) :
    (data m 0 c).Φ t.castSucc ⊢ iprop(∃ s1 : Vec Ideal S2x8x768 .bf16, ∃ s2 : Vec Ideal S2x1024 .f32,
      ⌜t.val ≠ 0 → s1 = pixelsOut m c ⟨t.val - 1, by omega⟩ ∧ s2 = posOut m c ⟨t.val - 1, by omega⟩⌝
      ∗ (∃ d, owns (c : Thread nD τ) tokenBuf fullShare d) ∗ owns (c : Thread nD τ) pixelBuf fullShare s1
      ∗ owns (c : Thread nD τ) posBuf fullShare s2 ∗ (∃ r, prngReg c r)) := by
  rw [data_invariant]
  by_cases h : t.val = 0
  · rw [invariant_first m c _ _ h, start_eq]
    iintro ⟨⟨HS0, ⟨%s1, HS1⟩, ⟨%s2, HS2⟩⟩, Hg⟩
    iexists s1, s2
    isplitr; · ipureintro; exact fun h' => absurd h h'
    isplitl [HS0]; · iexact HS0
    isplitl [HS1]; · iexact HS1
    isplitl [HS2]; · iexact HS2
    iexact Hg
  · rw [invariant_later m c _ _ h]
    unfold carriedBy
    iintro ⟨⟨HS0, HS1, HS2⟩, Hg⟩
    iexists _, _
    isplitr; · ipureintro; exact fun _ => ⟨rfl, rfl⟩
    isplitl [HS0]; · iexact HS0
    isplitl [HS1]; · iexact HS1
    isplitl [HS2]; · iexact HS2
    iexact Hg

/-- The body meets the obligation at every point. -/
theorem meets (c : Dev nD) (t : Fin cfg0.N) :
    calledWith c (data m 0 c) t iprop(∃ d, owns (c : Thread nD τ) (buf10 t) fullShare ((data m 0 c).before 10 t d))
      ⊢ wp frame (wpE (defs₀ (F := Ideal)) Variants.none c none) Set.univ (bodyAt0 t)
          (fun _ => returns c (data m 0 c) t (owns (c : Thread nD τ) (buf10 t) fullShare ((data m 0 c).after 10 t))) :=
  body_ok m c _ _ t _ _ _ (invariant_rows m c t) .rfl (by iintro ⟨%d, H⟩; iexists _; iexact H)
    fun s1 s2 hs => by rw [leftAt_eq m c t s1 s2 hs, left10]

/-- The region's obligation for the body, at every point. -/
theorem obligation (c : Dev nD) : BodyObligation (data m 0 c) (defs₀ (F := Ideal)) Variants.none () Set.univ := fun t => by
  rw [bigSep_W0, bigSep_W0, body_row]
  exact triple_restated (meets m c t) rfl .rfl fun _ => .rfl

/-! ## The run -/

/-- The invariant holds when the region starts. -/
theorem region_in (c : Dev nD) : Pipeline.ΦA spec0 c ⊢ (data m 0 c).Φ 0 := by
  rw [show (data m 0 c).Φ 0 = invariant m c 0 (Nat.zero_le _) from rfl, invariant_first m c 0 _ rfl]

/-- After the last point the carried rows' names are forgotten. -/
theorem region_out (c : Dev nD) : (data m 0 c).Φ (Fin.last cfg0.N) ⊢ Pipeline.ΦA spec0 c := by
  have hN : (Fin.last cfg0.N).val ≠ 0 := by rw [Fin.val_last]; have : cfg0.N = 9 := N_0; omega
  rw [show (data m 0 c).Φ (Fin.last cfg0.N) = invariant m c (Fin.last cfg0.N).val (Nat.le_of_lt_succ (Fin.last cfg0.N).isLt) from rfl,
    invariant_later m c _ _ hN]
  exact carriedBy_start m c _

set_option backward.isDefEq.respectTransparency.types false in
set_option maxHeartbeats 800000 in
/-- Every execution ends; the pipeline's arrays are what the proof data says, the other buffers what the operations
    after the region leave, and every counter is zero. -/
theorem run_all : θ_run defs (onTc (τ := τ) (main (F := Ideal))) (s₀ m ρ)
    (fun r => (Pipeline.FramePost cfgs (data m) 0 (Pipeline.afterTail₀ cfgs (data m) 0 (V0 m) [hostOps1])) r ∧ r.2.sem = fun _ => 0) :=
  Pipeline.θ_run_frame_around_track (Q' := _) cfgs (data m) (0 : Fin 1) launch0 defs₀ Variants.none m ρ main
    (hbody := fun c => (obligation m c).loose) (hshare := fun c => (data m 0 c).share_full fun _ => rfl)
    (howed := fun _ _ => rfl) (V₀ := V0 m) (opss := [hostOps1]) (hsub := sfx_sub) (hfresh := sfx_fresh) (hkeep := sfx_keeps)
    (hmain := hmain m Variants.none) (hA := data_arrays m) (hin := region_in m) (hout := region_out m)

end Cert.KernelIdeal.Hand

end
-- ==== Proof.Result.lean ====
/- The result of the kernel's program: the array the region leaves, and its transpose, are the tokens of `Spec`. -/
module

public import proofs.«01_k».proof.Proof.Region

@[expose] public section

set_option maxRecDepth 16384

noncomputable section

namespace Cert.KernelIdeal.Hand

open Cert.KernelIdeal.Gen Cert.Tokens
open Idealize.ShloMosaic Idealize.ShloMosaic.TcCoe Idealize.SL.Sem
open Idealize.ShloMosaic.Pipeline (Dat)

variable (m : (ℓ : Loc nD τ sig) → Buf (Elt Ideal) ℓ) (c : Dev nD)

/-- Where each window's block lies at point `t`: the pixel and position blocks stop advancing at block 7. -/
theorem block_index : ∀ t : Fin cfg0.N, win0_0.index t = ![0, 0] ∧ win0_1.index t = ![0, min t.val 7, 0] ∧ win0_2.index t = ![0, 0]
    ∧ win0_3.index t = ![min t.val 7, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![t.val, 0, 0] :=
  (by decide +kernel : ∀ t : Fin grid0.N, _)

/-- The reshaped operand `main_v1` as the region finds it: its argument laid out as a column. -/
theorem step_entry : V m c main_v1 = fun i => m ((c : Thread nD τ).loc main_arg1) (ix1 (i 0)) := by
  unfold V V0
  simp only [hostOps0, List.flatten_cons, List.flatten_nil, List.append_nil]
  after_results
  funext j
  idx_vars j
  pointwise

/-- The time steps' block. -/
theorem step_block (t : Fin cfg0.N) (b : Fin 8) :
    (iblk m c 0 t : FVec Ideal S8x1 .f32) (ix2 b 0) = m ((c : Thread nD τ).loc main_arg1) (ix1 b) := by
  blk_simp [iblk]
  rw [step_entry]
  blk_ext [block_index t]

/-- The pixel block: 128 rows of the array, from row `128 · min t 7`. -/
theorem pixel_block (t : Fin cfg0.N) (b : Fin 8) (l : Fin 128) (k : Fin 768) :
    (iblk m c 1 t : FVec Ideal S8x128x768 .f32) (ix3 b l k)
      = m ((c : Thread nD τ).loc main_arg0) (ix3 b ⟨min t.val 7 * 128 + l.val, by omega⟩ k) := by
  blk_point [iblk, V, block_index t]

/-- The patch weights. -/
theorem weight_block (t : Fin cfg0.N) (n : Fin 1024) (k : Fin 768) :
    (iblk m c 2 t : FVec Ideal S1024x768 .f32) (ix2 n k) = m ((c : Thread nD τ).loc main_arg2) (ix2 n k) := by
  blk_point [iblk, V, block_index t]

/-- The position block: 128 rows, from row `128 · min t 7`; never cut, since the last one ends at row 1023 of 1025. -/
theorem pos_block (t : Fin cfg0.N) (l : Fin 128) (n : Fin 1024) :
    (X0_3 m c t : FVec Ideal S128x1024 .f32) (ix2 l n)
      = m ((c : Thread nD τ).loc main_arg4) (ix2 ⟨min t.val 7 * 128 + l.val, by omega⟩ n) := by
  unfold X0_3 Pipeline.Window.fill
  rw [dif_pos (moved0_3 t _)]
  blk_point [iblk, V, block_index t]

/-- The reshaped operand `main_v2` as the region finds it: its argument laid out as a row. -/
theorem bias_entry : V m c main_v2 = fun i => m ((c : Thread nD τ).loc main_arg3) (ix1 (i 1)) := by
  unfold V V0
  simp only [hostOps0, List.flatten_cons, List.flatten_nil, List.append_nil]
  after_results
  funext j
  idx_vars j
  pointwise

/-- The patch bias. -/
theorem bias_block (t : Fin cfg0.N) (n : Fin 1024) :
    (iblk m c 4 t : FVec Ideal S1x1024 .f32) (ix2 0 n) = m ((c : Thread nD τ).loc main_arg3) (ix1 n) := by
  blk_simp [iblk]
  rw [bias_entry]
  blk_ext [block_index t]

/-- The reshaped operand `main_v0` as the region finds it: its argument laid out as a row. -/
theorem class_entry : V m c main_v0 = fun i => m ((c : Thread nD τ).loc main_arg5) (ix3 0 0 (i 1)) := by
  unfold V V0
  simp only [hostOps0, List.flatten_cons, List.flatten_nil, List.append_nil]
  after_results
  funext j
  idx_vars j
  pointwise

/-- The class token. -/
theorem class_block (t : Fin cfg0.N) (n : Fin 1024) :
    (iblk m c 5 t : FVec Ideal S1x1024 .f32) (ix2 0 n) = m ((c : Thread nD τ).loc main_arg5) (ix3 0 0 n) := by
  blk_simp [iblk]
  rw [class_entry]
  blk_ext [block_index t]

/-- The first layer's weights. -/
theorem first_weight_block (t : Fin cfg0.N) (n : Fin 1024) (k : Fin 256) :
    (iblk m c 6 t : FVec Ideal S1024x256 .f32) (ix2 n k) = m ((c : Thread nD τ).loc main_arg6) (ix2 n k) := by
  blk_point [iblk, V, block_index t]

/-- The reshaped operand `main_v3` as the region finds it: its argument laid out as a row. -/
theorem first_bias_entry : V m c main_v3 = fun i => m ((c : Thread nD τ).loc main_arg7) (ix1 (i 1)) := by
  unfold V V0
  simp only [hostOps0, List.flatten_cons, List.flatten_nil, List.append_nil]
  after_results
  funext j
  idx_vars j
  pointwise

/-- The first layer's bias. -/
theorem first_bias_block (t : Fin cfg0.N) (n : Fin 1024) :
    (iblk m c 7 t : FVec Ideal S1x1024 .f32) (ix2 0 n) = m ((c : Thread nD τ).loc main_arg7) (ix1 n) := by
  blk_simp [iblk]
  rw [first_bias_entry]
  blk_ext [block_index t]

/-- The second layer's weights. -/
theorem second_weight_block (t : Fin cfg0.N) (n : Fin 1024) (k : Fin 1024) :
    (iblk m c 8 t : FVec Ideal S1024x1024 .f32) (ix2 n k) = m ((c : Thread nD τ).loc main_arg8) (ix2 n k) := by
  blk_point [iblk, V, block_index t]

/-- The reshaped operand `main_v4` as the region finds it: its argument laid out as a row. -/
theorem second_bias_entry : V m c main_v4 = fun i => m ((c : Thread nD τ).loc main_arg9) (ix1 (i 1)) := by
  unfold V V0
  simp only [hostOps0, List.flatten_cons, List.flatten_nil, List.append_nil]
  after_results
  funext j
  idx_vars j
  pointwise

/-- The second layer's bias. -/
theorem second_bias_block (t : Fin cfg0.N) (n : Fin 1024) :
    (iblk m c 9 t : FVec Ideal S1x1024 .f32) (ix2 0 n) = m ((c : Thread nD τ).loc main_arg9) (ix1 n) := by
  blk_simp [iblk]
  rw [second_bias_entry]
  blk_ext [block_index t]

/-- The token of sequence `b`, row `r`, channel `n`, read from the arguments in memory. -/
def token (b : Fin 8) (r : Fin 1026) (n : Fin 1024) : EReal :=
  entry (fun b l k => m ((c : Thread nD τ).loc main_arg0) (ix3 b l k)) (fun b => m ((c : Thread nD τ).loc main_arg1) (ix1 b))
    (fun n k => m ((c : Thread nD τ).loc main_arg2) (ix2 n k)) (fun n => m ((c : Thread nD τ).loc main_arg3) (ix1 n))
    (fun l n => m ((c : Thread nD τ).loc main_arg4) (ix2 l n)) (fun n => m ((c : Thread nD τ).loc main_arg5) (ix3 0 0 n))
    (fun h k => m ((c : Thread nD τ).loc main_arg6) (ix2 h k)) (fun h => m ((c : Thread nD τ).loc main_arg7) (ix1 h))
    (fun n h => m ((c : Thread nD τ).loc main_arg8) (ix2 n h)) (fun n => m ((c : Thread nD τ).loc main_arg9) (ix1 n)) b r n

/-- Block 0 holds tokens 0 to 127. -/
theorem first_token (t : Fin cfg0.N) (ht : t.val = 0) (i : Fin 128) (b : Fin 8) (n : Fin 1024) (h : 128 * t.val + i.val < 1026) :
    blockOut m c t (ix3 i b n) = token m c b ⟨128 * t.val + i.val, h⟩ n := by
  rw [show blockOut m c t = _ from if_pos ht]
  unfold firstAt token entry
  rw [firstBlock_apply]
  simp only [step_block, pixel_block, weight_block, pos_block, bias_block, class_block, first_weight_block, first_bias_block,
    second_weight_block, second_bias_block, ht, Nat.zero_min, Nat.zero_mul, Nat.mul_zero, Nat.zero_add]

/-- Block `t` after the first holds tokens `128 t` to `128 t + 127`; the last block only reaches its carried rows. -/
theorem later_token (t : Fin cfg0.N) (ht : t.val ≠ 0) (i : Fin 128) (b : Fin 8) (n : Fin 1024) (h : 128 * t.val + i.val < 1026) :
    blockOut m c t (ix3 i b n) = token m c b ⟨128 * t.val + i.val, h⟩ n := by
  have hN : t.val < 9 := t.isLt
  rw [show blockOut m c t = _ from if_neg ht]
  unfold patchAt token entry
  rw [if_neg (by dsimp only; omega), dif_neg (by dsimp only; omega)]
  by_cases hi : i.val < 2
  · rw [patchBlock_carried _ _ _ _ _ _ i hi]
    have e : min (t.val - 1) 7 * 128 + (126 + i.val) = 128 * t.val + i.val - 2 := by omega
    simp only [pixelsOut, posOut, carried_apply, tailRows_apply, pixel_block, pos_block, weight_block, bias_block, e]
  · rw [patchBlock_own _ _ _ _ _ _ i (by omega)]
    have e : min t.val 7 * 128 + (i.val - 2) = 128 * t.val + i.val - 2 := by omega
    simp only [pixel_block, pos_block, weight_block, bias_block, e]

/-- Block `t` holds tokens `128 t` onwards, at every point. -/
theorem block_token (t : Fin cfg0.N) (i : Fin 128) (b : Fin 8) (n : Fin 1024) (h : 128 * t.val + i.val < 1026) :
    blockOut m c t (ix3 i b n) = token m c b ⟨128 * t.val + i.val, h⟩ n := by
  by_cases ht : t.val = 0
  · exact first_token m c t ht i b n h
  · exact later_token m c t ht i b n h

/-- The array the region leaves: row, sequence, channel. -/
def rowsFirst : Buf (Elt Ideal) ((c : Thread nD τ).loc main_v5) := fun i => token m c (i 1) (i 0) (i 2)

/-- Where position `y` of the output's block at point `t` lies in the array, axis by axis. -/
theorem out_at (t : Fin cfg0.N) (y : ((cfg0.win 10).xblock (cfg0.grid.coords t)).Idx) (a : Fin 3) :
    ((((cfg0.win 10).blk t).view.emb y) a : ℕ) = (![t.val, 0, 0] : Fin 3 → ℕ) a * S128x8x1024.size a + (y a).val := by
  have h := (block_index t).2.2.2.2.2.2.2.2.2.2
  rw [← h]
  exact Pipeline.Window.rect_emb_val ..

/-- A block's entry and the array's entry agree wherever their coordinates correspond. -/
theorem block_rows (t : Fin cfg0.N) (z : S128x8x1024.Idx) (x : S1026x8x1024.Idx) (h0 : (x 0).val = t.val * 128 + (z 0).val)
    (h1 : (x 1).val = (z 1).val) (h2 : (x 2).val = (z 2).val) : blockOut m c t z = rowsFirst m c x := by
  idx_vars z
  idx_vars x
  obtain rfl := Fin.ext h1
  obtain rfl := Fin.ext h2
  have hr : 128 * t.val + z0.val < 1026 := by have : x0.val < 1026 := x0.isLt; omega
  rw [block_token m c t z0 _ _ hr]
  have e : (⟨128 * t.val + z0.val, hr⟩ : Fin 1026) = x0 := Fin.ext (by dsimp only; omega)
  rw [e]
  rfl

/-- After the whole run the output array holds every token, by row, sequence and channel. -/
theorem final : (data m 0 c).arrAt 10 cfg0.N = rowsFirst m c := by
  refine (data m 0 c).arrAt_eq_of_covers 10 (rowsFirst m c) (by decide +kernel) fun t ht y => ?_
  blk_simp
  rw [left10]
  exact block_rows m c t _ _ (out_at t y 0) ((out_at t y 1).trans (by show 0 * 8 + _ = _; rw [Nat.zero_mul, Nat.zero_add]))
    ((out_at t y 2).trans (by show 0 * 1024 + _ = _; rw [Nat.zero_mul, Nat.zero_add]))

/-- What the program returns: sequence, row, channel. -/
def tokens : Buf (Elt Ideal) ((c : Thread nD τ).loc main_v6) := fun i => token m c (i 0) (i 1) (i 2)

/-- The last host operation exchanges the array's first two axes. -/
theorem returned : Pipeline.afterTail₀ cfgs (data m) 0 (V0 m) [hostOps1] c main_v6 = tokens m c := by
  unfold Pipeline.afterTail₀
  simp only [hostOps1, List.flatten_cons, List.flatten_nil, List.append_nil]
  after_results
  have h : Pipeline.withArrays (cfgs 0).spec c (V0 m c) (fun w => (data m 0 c).arrAt w (cfgs 0).N) (Proc.tc.devRef main_v5)
      = rowsFirst m c := (Pipeline.withArrays_arr spec0 (by decide) c _ _ 10).trans (final m c)
  rw [h]
  funext j
  idx_vars j
  pointwise [rowsFirst, tokens]

/-- Every run of the program ends with the tokens in its result, its arguments as they were and its counters zero. -/
theorem run_tokens (ρ : Dev nD → PrngReg) :
    θ_run defs (onTc (τ := τ) (main (F := Ideal))) ⟨m, fun _ => 0, ρ⟩ fun r => ∀ c : Dev nD,
      r.2.mem ((c : Thread nD τ).loc main_v6) = tokens m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) := by
  have hrun := (θ_run defs _ _).mono (fun _ h => h.1) (run_all m ρ)
  refine (θ_run defs _ _).mono ?_ (θ_run_and hrun (frame_of m ρ (data m) (data_arrays m) hrun))
  rintro r ⟨h, hargs⟩ c
  refine ⟨((h c).2 main_v6 (Pipeline.mem_restRefs_of main_v6 (by decide) (by decide))).trans (returned m c), ?_⟩
  exact hargs c

end Cert.KernelIdeal.Hand

end
-- ==== Proof.Reference.lean ====
/- The reference's result, index by index: the tokens of `Spec`. -/
module

public import proofs.«01_k».proof.Proof.Spec
public import proofs.«01_k».proof.Proof.Gen.ReferenceIdeal.Run
public import Idealize.ShloMosaic.Lib.Pointwise

@[expose] public section

set_option maxRecDepth 16384

noncomputable section

namespace Cert.ReferenceIdeal.Hand

open Cert.ReferenceIdeal Cert.Tokens
open Idealize.ShloMosaic Idealize.ShloMosaic.TcCoe Idealize.SL.Sem

variable (m : (ℓ : Loc nD τ sig) → Buf (Elt Ideal) ℓ) (c : Dev nD)

/-- The token of sequence `b`, row `r`, channel `n`, read from the reference's arguments in memory. -/
def token (b : Fin 8) (r : Fin 1026) (n : Fin 1024) : EReal :=
  entry (fun b l k => m ((c : Thread nD τ).loc main_arg0) (ix3 b l k)) (fun b => m ((c : Thread nD τ).loc main_arg1) (ix1 b))
    (fun n k => m ((c : Thread nD τ).loc main_arg2) (ix2 n k)) (fun n => m ((c : Thread nD τ).loc main_arg3) (ix1 n))
    (fun l n => m ((c : Thread nD τ).loc main_arg4) (ix2 l n)) (fun n => m ((c : Thread nD τ).loc main_arg5) (ix3 0 0 n))
    (fun h k => m ((c : Thread nD τ).loc main_arg6) (ix2 h k)) (fun h => m ((c : Thread nD τ).loc main_arg7) (ix1 h))
    (fun n h => m ((c : Thread nD τ).loc main_arg8) (ix2 n h)) (fun n => m ((c : Thread nD τ).loc main_arg9) (ix1 n)) b r n

/-- The reference's concatenation of class, time and patch tokens, at an index: the time token's frequencies are the
    powers the reference spells as exponentials of quotients, and a patch adds its bias before its position. -/
theorem result_at (b : Fin 8) (r : Fin 1026) (n : Fin 1024) : Value.res_main_v41 m c (ix3 b r n) = token m c b r n := by
  unfold token entry
  pointwise [Value.res_main_v41]
  by_cases h0 : r.val = 0
  · rw [dif_pos (by omega), if_pos h0]
  · rw [dif_neg (by omega), if_neg h0]
    by_cases h1 : r.val < 2
    · rw [dif_pos (by omega), dif_pos h1]
      unfold timeToken Tokens.hidden Ideal.logistic
      simp only [frequency_eq]
    · have h2 : ¬r.val - 1 < 1 := by omega
      simp only [h1, h2, ↓reduceDIte]
      unfold patchToken
      rw [add_right_comm]
      rfl

end Cert.ReferenceIdeal.Hand

end
-- ==== Proof.lean ====
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Frame
public import proofs.«01_k».proof.Proof.Result
public import proofs.«01_k».proof.Proof.Reference
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The kernel's body table is the one of the program read over the extended reals, before any float type is chosen. -/
theorem same_bodies {F : FTy → Type} [FloatOps F] : defs₀ (F := F) = Cert.KernelIdeal.defs₀ (F := F) := by
  unfold defs₀ Cert.KernelIdeal.defs₀
  refine congrArg Defs.onTc ?_
  funext l a
  match l, a with
  | 0, (t, s) => exact congrFun rfl _
  | ⟨_ + 1, h⟩, _ => exact absurd h (Nat.not_lt.2 (Nat.le_add_left _ _))

/-- So is the table with the pipeline's own parts. -/
theorem same_table {F : FTy → Type} [FloatOps F] : defs (F := F) = Cert.KernelIdeal.defs (F := F) :=
  congrArg (Pipeline.defs Cert.KernelIdeal.pcfgs) same_bodies

/-- The kernel's program leaves its arguments as launched and every counter at zero: the statement for any float type,
    at the kernel's own floats. -/
theorem frame_kernel : Cert.quiescent_Kernel := fun m g _ => by
  rw [same_table]
  exact Cert.KernelIdeal.Hand.quiet (F := Bits) m g

/-- Over the extended reals the same holds. -/
theorem frame_ideal : Cert.quiescent_KernelIdeal := fun m g _ => Cert.KernelIdeal.Hand.quiet m g

/-- The reference leaves its arguments as launched; it has no counters, so all of them are zero. -/
theorem frame_reference : Cert.quiescent_ReferenceIdeal := fun m g _ =>
  (θ_run _ _ _).mono (fun r h => ⟨fun c => (h c).2, sem_eq_zero_of_no_sems (by decide) r.2⟩) (Cert.ReferenceIdeal.Value.run m g)

/-- From equal arguments the kernel's program and the reference return the same tokens. -/
theorem same_tokens : Cert.algebraic_KernelIdeal_ReferenceIdeal := by
  pair_intro
  · run_from Cert.KernelIdeal.Hand.run_tokens m g
  · run_from Cert.ReferenceIdeal.Value.run m' g'
    funext j
    idx_vars j
    rw [Cert.ReferenceIdeal.Hand.result_at]
    obtain ⟨h0, h1, h2, h3, h4, h5, h6, h7, h8, h9⟩ := hagree c
    unfold Cert.ReferenceIdeal.Hand.token
    rw [h0, h1, h2, h3, h4, h5, h6, h7, h8, h9]
    rfl

/-- The five claims together. -/
theorem claim : Cert.Claim := ⟨Cert.Kernel.Gen.facts, Cert.KernelIdeal.Gen.facts, Cert.ReferenceIdeal.Gen.facts,
  frame_kernel, frame_ideal, frame_reference, trivial, same_tokens⟩

end Cert.Proof

end
